-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x512x4096 : Shape := ⟨3, ![2, 512, 4096]⟩
abbrev S2x2 : Shape := ⟨2, ![2, 2]⟩
abbrev S2 : Shape := ⟨1, ![2]⟩
abbrev S_ : Shape := ⟨0, ![]⟩
abbrev S512x512 : Shape := ⟨2, ![512, 512]⟩
abbrev S512x2048 : Shape := ⟨2, ![512, 2048]⟩
abbrev S1x512x2048 : Shape := ⟨3, ![1, 512, 2048]⟩
abbrev S1x1 : Shape := ⟨2, ![1, 1]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S4096x512, .f32⟩
  | .hbm, ⟨1, _⟩ => ⟨S512x8192, .f32⟩
  | .hbm, ⟨2, _⟩ => ⟨S512x8192, .f32⟩
  | .local _ .vmem, ⟨0, _⟩ => ⟨S4096x512, .f32⟩
  | .local _ .vmem, ⟨1, _⟩ => ⟨S512x8192, .f32⟩
  | .local _ .vmem, ⟨2, _⟩ => ⟨S2x512x4096, .f32⟩
  | .local _ .vmem, ⟨3, _⟩ => ⟨S2x512x4096, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 6 → Bool
  | ⟨0, _⟩ => true
  | ⟨1, _⟩ => true
  | ⟨2, _⟩ => true
  | ⟨3, _⟩ => true
  | ⟨4, _⟩ => false
  | ⟨5, _⟩ => true
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 6 22 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_12 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_10 : BitVec 32 := 8#32
  let v13 : BitVec 32 := Scalar.addi v2 c8_i32_10
  let c1_i32_11 : BitVec 32 := 1#32
  let v14 : BitVec 32 := Scalar.subi v13 c1_i32_11
  let v15 : BitVec 32 := Scalar.subi v14 c0_i32_12
  let c8_i32_13 : BitVec 32 := 8#32
  let v16 : BitVec 32 := Scalar.remsi v15 c8_i32_13
  let c512_i32 : BitVec 32 := 512#32
  let v20 : BitVec 32 := Scalar.muli v16 c512_i32
  let v21 : Index := Scalar.indexCast v20
  let c0 : Index := 0#32
  ![v21.toNat, 0]
def k0_off2 (d0 : Dev nD) (c0_i32_15 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v17 : BitVec 32 := Scalar.addi v2 c1_i32_14
  let v18 : BitVec 32 := Scalar.addi v17 c0_i32_15
  let c8_i32_16 : BitVec 32 := 8#32
  let v19 : BitVec 32 := Scalar.remsi v18 c8_i32_16
  let c512_i32_22 : BitVec 32 := 512#32
  let v30 : BitVec 32 := Scalar.muli v19 c512_i32_22
  let v31 : Index := Scalar.indexCast v30
  let c0_23 : Index := 0#32
  ![v31.toNat, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_35 : BitVec 32 := 1#32
  let v40 : BitVec 32 := Scalar.muli v7 c1_i32_35
  let v41 : BitVec 32 := Scalar.addi c0_i32_36 v40
  v41.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_47 : BitVec 32 := 1#32
  let v50 : BitVec 32 := Scalar.muli v5 c1_i32_47
  let v51 : BitVec 32 := Scalar.addi c0_i32_48 v50
  v51.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_73 : BitVec 32 := 1#32
  let v80 : BitVec 32 := Scalar.muli v7 c1_i32_73
  let v81 : BitVec 32 := Scalar.addi c0_i32_74 v80
  v81.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_84 : BitVec 32 := 1#32
  let v90 : BitVec 32 := Scalar.muli v5 c1_i32_84
  let v91 : BitVec 32 := Scalar.addi c0_i32_85 v90
  v91.toNat
def k0_dev7 (d0 : Dev nD) : Nat :=
  let c0_i32_146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_145 : BitVec 32 := 1#32
  let v137 : BitVec 32 := Scalar.muli v5 c1_i32_145
  let v138 : BitVec 32 := Scalar.addi c0_i32_146 v137
  v138.toNat
def k0_dev8 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_149 : BitVec 32 := 1#32
  let v141 : BitVec 32 := Scalar.muli v7 c1_i32_149
  let v142 : BitVec 32 := Scalar.addi c0_i32_150 v141
  v142.toNat
def k0_dev9 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_184 : BitVec 32 := 1#32
  let v173 : BitVec 32 := Scalar.muli v7 c1_i32_184
  let v174 : BitVec 32 := Scalar.addi c0_i32_185 v173
  v174.toNat
def k0_dev10 (d0 : Dev nD) : Nat :=
  let c0_i32_197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_196 : BitVec 32 := 1#32
  let v183 : BitVec 32 := Scalar.muli v5 c1_i32_196
  let v184 : BitVec 32 := Scalar.addi c0_i32_197 v183
  v184.toNat
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_250 : BitVec 32 := 1#32
  let v223 : BitVec 32 := Scalar.muli v5 c1_i32_250
  let v224 : BitVec 32 := Scalar.addi c0_i32_251 v223
  v224.toNat
def k0_dev12 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_254 : BitVec 32 := 1#32
  let v227 : BitVec 32 := Scalar.muli v7 c1_i32_254
  let v228 : BitVec 32 := Scalar.addi c0_i32_255 v227
  v228.toNat
def k0_dev13 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_290 : BitVec 32 := 1#32
  let v259 : BitVec 32 := Scalar.muli v7 c1_i32_290
  let v260 : BitVec 32 := Scalar.addi c0_i32_291 v259
  v260.toNat
def k0_dev14 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_302 : BitVec 32 := 1#32
  let v269 : BitVec 32 := Scalar.muli v5 c1_i32_302
  let v270 : BitVec 32 := Scalar.addi c0_i32_303 v269
  v270.toNat
def k0_dev15 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_363 : BitVec 32 := 1#32
  let v316 : BitVec 32 := Scalar.muli v5 c1_i32_363
  let v317 : BitVec 32 := Scalar.addi c0_i32_364 v316
  v317.toNat
def k0_dev16 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_367 : BitVec 32 := 1#32
  let v320 : BitVec 32 := Scalar.muli v7 c1_i32_367
  let v321 : BitVec 32 := Scalar.addi c0_i32_368 v320
  v321.toNat
def k0_dev17 (d0 : Dev nD) : Nat :=
  let c0_i32_404 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_403 : BitVec 32 := 1#32
  let v352 : BitVec 32 := Scalar.muli v7 c1_i32_403
  let v353 : BitVec 32 := Scalar.addi c0_i32_404 v352
  v353.toNat
def k0_dev18 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_415 : BitVec 32 := 1#32
  let v362 : BitVec 32 := Scalar.muli v5 c1_i32_415
  let v363 : BitVec 32 := Scalar.addi c0_i32_416 v362
  v363.toNat
def k0_dev19 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_469 : BitVec 32 := 1#32
  let v402 : BitVec 32 := Scalar.muli v5 c1_i32_469
  let v403 : BitVec 32 := Scalar.addi c0_i32_470 v402
  v403.toNat
def k0_dev20 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_473 : BitVec 32 := 1#32
  let v406 : BitVec 32 := Scalar.muli v7 c1_i32_473
  let v407 : BitVec 32 := Scalar.addi c0_i32_474 v406
  v407.toNat
def k0_dev21 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_509 : BitVec 32 := 1#32
  let v438 : BitVec 32 := Scalar.muli v7 c1_i32_509
  let v439 : BitVec 32 := Scalar.addi c0_i32_510 v438
  v439.toNat
def k0_dev22 (d0 : Dev nD) : Nat :=
  let c0_i32_522 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_521 : BitVec 32 := 1#32
  let v448 : BitVec 32 := Scalar.muli v5 c1_i32_521
  let v449 : BitVec 32 := Scalar.addi c0_i32_522 v448
  v449.toNat
def k0_dev23 (d0 : Dev nD) : Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_581 : BitVec 32 := 1#32
  let v495 : BitVec 32 := Scalar.muli v5 c1_i32_581
  let v496 : BitVec 32 := Scalar.addi c0_i32_582 v495
  v496.toNat
def k0_dev24 (d0 : Dev nD) : Nat :=
  let c0_i32_586 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_585 : BitVec 32 := 1#32
  let v499 : BitVec 32 := Scalar.muli v7 c1_i32_585
  let v500 : BitVec 32 := Scalar.addi c0_i32_586 v499
  v500.toNat
def k0_dev25 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_621 : BitVec 32 := 1#32
  let v531 : BitVec 32 := Scalar.muli v7 c1_i32_621
  let v532 : BitVec 32 := Scalar.addi c0_i32_622 v531
  v532.toNat
def k0_dev26 (d0 : Dev nD) : Nat :=
  let c0_i32_634 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_633 : BitVec 32 := 1#32
  let v541 : BitVec 32 := Scalar.muli v5 c1_i32_633
  let v542 : BitVec 32 := Scalar.addi c0_i32_634 v541
  v542.toNat
def k0_dev27 (d0 : Dev nD) : Nat :=
  let c0_i32_688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_687 : BitVec 32 := 1#32
  let v581 : BitVec 32 := Scalar.muli v5 c1_i32_687
  let v582 : BitVec 32 := Scalar.addi c0_i32_688 v581
  v582.toNat
def k0_dev28 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_691 : BitVec 32 := 1#32
  let v585 : BitVec 32 := Scalar.muli v7 c1_i32_691
  let v586 : BitVec 32 := Scalar.addi c0_i32_692 v585
  v586.toNat
def k0_dev29 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_727 : BitVec 32 := 1#32
  let v617 : BitVec 32 := Scalar.muli v7 c1_i32_727
  let v618 : BitVec 32 := Scalar.addi c0_i32_728 v617
  v618.toNat
def k0_dev30 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_739 : BitVec 32 := 1#32
  let v627 : BitVec 32 := Scalar.muli v5 c1_i32_739
  let v628 : BitVec 32 := Scalar.addi c0_i32_740 v627
  v628.toNat
def k0_dev31 (d0 : Dev nD) : Nat :=
  let c0_i32_800 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_799 : BitVec 32 := 1#32
  let v674 : BitVec 32 := Scalar.muli v5 c1_i32_799
  let v675 : BitVec 32 := Scalar.addi c0_i32_800 v674
  v675.toNat
def k0_dev32 (d0 : Dev nD) : Nat :=
  let c0_i32_804 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_803 : BitVec 32 := 1#32
  let v678 : BitVec 32 := Scalar.muli v7 c1_i32_803
  let v679 : BitVec 32 := Scalar.addi c0_i32_804 v678
  v679.toNat
def k0_dev33 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_839 : BitVec 32 := 1#32
  let v710 : BitVec 32 := Scalar.muli v7 c1_i32_839
  let v711 : BitVec 32 := Scalar.addi c0_i32_840 v710
  v711.toNat
def k0_dev34 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_851 : BitVec 32 := 1#32
  let v720 : BitVec 32 := Scalar.muli v5 c1_i32_851
  let v721 : BitVec 32 := Scalar.addi c0_i32_852 v720
  v721.toNat
def k0_dev35 (d0 : Dev nD) : Nat :=
  let c0_i32_906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_905 : BitVec 32 := 1#32
  let v760 : BitVec 32 := Scalar.muli v5 c1_i32_905
  let v761 : BitVec 32 := Scalar.addi c0_i32_906 v760
  v761.toNat
def k0_dev36 (d0 : Dev nD) : Nat :=
  let c0_i32_910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_909 : BitVec 32 := 1#32
  let v764 : BitVec 32 := Scalar.muli v7 c1_i32_909
  let v765 : BitVec 32 := Scalar.addi c0_i32_910 v764
  v765.toNat
def k0_dev37 (d0 : Dev nD) : Nat :=
  let c0_i32_946 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_945 : BitVec 32 := 1#32
  let v796 : BitVec 32 := Scalar.muli v7 c1_i32_945
  let v797 : BitVec 32 := Scalar.addi c0_i32_946 v796
  v797.toNat
def k0_dev38 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_957 : BitVec 32 := 1#32
  let v806 : BitVec 32 := Scalar.muli v5 c1_i32_957
  let v807 : BitVec 32 := Scalar.addi c0_i32_958 v806
  v807.toNat
def k0_dev39 (d0 : Dev nD) : Nat :=
  let c0_i32_1018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1017 : BitVec 32 := 1#32
  let v853 : BitVec 32 := Scalar.muli v5 c1_i32_1017
  let v854 : BitVec 32 := Scalar.addi c0_i32_1018 v853
  v854.toNat
def k0_dev40 (d0 : Dev nD) : Nat :=
  let c0_i32_1022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1021 : BitVec 32 := 1#32
  let v857 : BitVec 32 := Scalar.muli v7 c1_i32_1021
  let v858 : BitVec 32 := Scalar.addi c0_i32_1022 v857
  v858.toNat
def k0_dev41 (d0 : Dev nD) : Nat :=
  let c0_i32_1058 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1057 : BitVec 32 := 1#32
  let v889 : BitVec 32 := Scalar.muli v7 c1_i32_1057
  let v890 : BitVec 32 := Scalar.addi c0_i32_1058 v889
  v890.toNat
def k0_dev42 (d0 : Dev nD) : Nat :=
  let c0_i32_1070 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1069 : BitVec 32 := 1#32
  let v899 : BitVec 32 := Scalar.muli v5 c1_i32_1069
  let v900 : BitVec 32 := Scalar.addi c0_i32_1070 v899
  v900.toNat
def k0_dev43 (d0 : Dev nD) : Nat :=
  let c0_i32_1124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1123 : BitVec 32 := 1#32
  let v939 : BitVec 32 := Scalar.muli v5 c1_i32_1123
  let v940 : BitVec 32 := Scalar.addi c0_i32_1124 v939
  v940.toNat
def k0_dev44 (d0 : Dev nD) : Nat :=
  let c0_i32_1128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1127 : BitVec 32 := 1#32
  let v943 : BitVec 32 := Scalar.muli v7 c1_i32_1127
  let v944 : BitVec 32 := Scalar.addi c0_i32_1128 v943
  v944.toNat
def k0_dev45 (d0 : Dev nD) : Nat :=
  let c0_i32_1164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1163 : BitVec 32 := 1#32
  let v975 : BitVec 32 := Scalar.muli v7 c1_i32_1163
  let v976 : BitVec 32 := Scalar.addi c0_i32_1164 v975
  v976.toNat
def k0_dev46 (d0 : Dev nD) : Nat :=
  let c0_i32_1176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1175 : BitVec 32 := 1#32
  let v985 : BitVec 32 := Scalar.muli v5 c1_i32_1175
  let v986 : BitVec 32 := Scalar.addi c0_i32_1176 v985
  v986.toNat
def k0_dev47 (d0 : Dev nD) : Nat :=
  let c0_i32_1236 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1235 : BitVec 32 := 1#32
  let v1032 : BitVec 32 := Scalar.muli v5 c1_i32_1235
  let v1033 : BitVec 32 := Scalar.addi c0_i32_1236 v1032
  v1033.toNat
def k0_dev48 (d0 : Dev nD) : Nat :=
  let c0_i32_1240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1239 : BitVec 32 := 1#32
  let v1036 : BitVec 32 := Scalar.muli v7 c1_i32_1239
  let v1037 : BitVec 32 := Scalar.addi c0_i32_1240 v1036
  v1037.toNat
def k0_dev49 (d0 : Dev nD) : Nat :=
  let c0_i32_1276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1275 : BitVec 32 := 1#32
  let v1068 : BitVec 32 := Scalar.muli v7 c1_i32_1275
  let v1069 : BitVec 32 := Scalar.addi c0_i32_1276 v1068
  v1069.toNat
def k0_dev50 (d0 : Dev nD) : Nat :=
  let c0_i32_1288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1287 : BitVec 32 := 1#32
  let v1078 : BitVec 32 := Scalar.muli v5 c1_i32_1287
  let v1079 : BitVec 32 := Scalar.addi c0_i32_1288 v1078
  v1079.toNat
def k0_dev51 (d0 : Dev nD) : Nat :=
  let c0_i32_1342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1341 : BitVec 32 := 1#32
  let v1118 : BitVec 32 := Scalar.muli v5 c1_i32_1341
  let v1119 : BitVec 32 := Scalar.addi c0_i32_1342 v1118
  v1119.toNat
def k0_dev52 (d0 : Dev nD) : Nat :=
  let c0_i32_1346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1345 : BitVec 32 := 1#32
  let v1122 : BitVec 32 := Scalar.muli v7 c1_i32_1345
  let v1123 : BitVec 32 := Scalar.addi c0_i32_1346 v1122
  v1123.toNat
def k0_dev53 (d0 : Dev nD) : Nat :=
  let c0_i32_1382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1381 : BitVec 32 := 1#32
  let v1154 : BitVec 32 := Scalar.muli v7 c1_i32_1381
  let v1155 : BitVec 32 := Scalar.addi c0_i32_1382 v1154
  v1155.toNat
def k0_dev54 (d0 : Dev nD) : Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1393 : BitVec 32 := 1#32
  let v1164 : BitVec 32 := Scalar.muli v5 c1_i32_1393
  let v1165 : BitVec 32 := Scalar.addi c0_i32_1394 v1164
  v1165.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_1448 : BitVec 32 := 512#32
  let v1204 : BitVec 32 := Scalar.muli v2 c512_i32_1448
  let v1205 : Index := Scalar.indexCast v1204
  let c0_1449 : Index := 0#32
  ![v1205.toNat, 0]
def k0_dev55 (d0 : Dev nD) : Nat :=
  let c0_i32_1591_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1590_r0 : BitVec 32 := 1#32
  let v1323_r0 : BitVec 32 := Scalar.muli v5 c1_i32_1590_r0
  let v1324_r0 : BitVec 32 := Scalar.addi c0_i32_1591_r0 v1323_r0
  v1324_r0.toNat
def k0_dev56 (d0 : Dev nD) : Nat :=
  let c0_i32_1594_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1593_r0 : BitVec 32 := 1#32
  let v1325_r0 : BitVec 32 := Scalar.muli v7 c1_i32_1593_r0
  let v1326_r0 : BitVec 32 := Scalar.addi c0_i32_1594_r0 v1325_r0
  v1326_r0.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Shape.lean ====
module

public import proofs.«01_k».proof.Proof.Gen.KernelIdeal
public import proofs.«01_k».proof.Proof.Gen.KernelIdeal.Launch
public import proofs.«01_k».proof.Proof.Gen.KernelIdeal.Points

/-!
# The kernel body, written once

The printed body repeats one pattern for both directions of the ring, both
quarters of a buffer and every hop.  Here each repeated piece is a program of
its own over a direction, a quarter and a hop, and `body_eq` says that the
printed body is their composition.
-/

@[expose] public section

noncomputable section

namespace Cert.KernelIdeal.Hop

open Idealize.ShloMosaic Idealize.ShloMosaic.TcCoe
open Idealize.SL Idealize.SL.Sem
open Cert.KernelIdeal Cert.KernelIdeal.Gen

variable {F : FTy → Type} [FloatOps F]

/-- A piece of the kernel's program. -/
abbrev P (F : FTy → Type) := Prog (TpuEff nD τ sig (Elt F) Λ₀ .tc) PUnit

/-- The slot of hop `n`: its parity. -/
def sl (n : ℕ) : Fin 2 := ⟨n % 2, Nat.mod_lt _ (by decide)⟩

/-- The next device of the ring. -/
def nxt (c : Dev nD) : Dev nD := ⟨k0_dev2 c, k0_dev2_lt c⟩
/-- The previous device of the ring. -/
def prv (c : Dev nD) : Dev nD := ⟨k0_dev1 c, k0_dev1_lt c⟩

/-- The device a direction sends to: `false` goes right, `true` goes left. -/
def down : Bool → Dev nD → Dev nD
  | false => nxt
  | true => prv
/-- The device a direction receives from. -/
def up : Bool → Dev nD → Dev nD
  | false => prv
  | true => nxt

/-- A direction's buffer. -/
def buf : Bool → Memref sig .tc .vmem S2x512x4096 .f32
  | false => Memref.whole cc0_scratch0
  | true => Memref.whole cc0_scratch1

theorem reg_inb (s q : Fin 2) : ∀ a, (![s.val, 0, 2048 * q.val] : Fin 3 → ℕ) a + S1x512x2048.size a ≤ S2x512x4096.size a := by
  revert s q; decide

theorem cell_inb (s q : Fin 2) : ∀ a, (![s.val, q.val] : Fin 2 → ℕ) a + S1x1.size a ≤ S2x2.size a := by
  revert s q; decide

theorem cell1_inb (q : Fin 2) : ∀ a, (![q.val] : Fin 1 → ℕ) a + S1.size a ≤ S2.size a := by
  revert q; decide

/-- Where a direction's columns begin: the right half of the result goes left. -/
def half : Bool → ℕ
  | false => 0
  | true => 4096

theorem col_inb (dir : Bool) (q : Fin 2) :
    ∀ a, (![0, half dir + 2048 * q.val] : Fin 2 → ℕ) a + S512x2048.size a ≤ S512x8192.size a := by
  revert dir q; decide

/-- The rectangle of slot `s`, quarter `q` of a buffer. -/
abbrev rect (s q : Fin 2) : Rect S2x512x4096 :=
  Rect.unit (s := S2x512x4096) ![s.val, 0, 2048 * q.val] S1x512x2048.size (reg_inb s q)

/-- The rectangle of a direction's quarter `q` in the weights and in the result. -/
abbrev colRect (dir : Bool) (q : Fin 2) : Rect S512x8192 :=
  Rect.unit (s := S512x8192) ![0, half dir + 2048 * q.val] S512x2048.size (col_inb dir q)

/-- Slot `s`, quarter `q` of a direction's buffer, as a matrix. -/
def reg (dir : Bool) (s q : Fin 2) : Memref sig .tc .vmem S512x2048 .f32 :=
  ((buf dir).slice (rect s q) (fun _ => rfl)).squeeze S512x2048 squeezes_S1x512x2048_S512x2048

/-- A direction's quarter `q` of the result. -/
def outReg (dir : Bool) (q : Fin 2) : Memref sig .tc .hbm S512x2048 .f32 :=
  (Memref.whole main_v1).slice (colRect dir q) (fun _ => rfl)

/-- The semaphore at `[s, q]` of an array of four. -/
abbrev at22 (a : DmaSems sig S2x2) (s q : Fin 2) : DmaSem sig :=
  ((a.slice (Rect.unit (s := S2x2) ![s.val, q.val] S1x1.size (cell_inb s q))).squeeze S_ squeezes_S1x1_S_).sem

/-- The semaphore at `[q]` of an array of two. -/
abbrev at2 (a : Sems sig S2) (q : Fin 2) : Sem sig :=
  ((a.slice (Rect.unit (s := S2) ![q.val] S1.size (cell1_inb q))).squeeze S_ squeezes_S1_S_).sem

/-- The cell of departures. -/
def sendSem : Bool → Fin 2 → Fin 2 → DmaSem sig
  | false, s, q => at22 cc0_scratch2 s q
  | true, s, q => at22 cc0_scratch4 s q
/-- The cell of arrivals. -/
def recvSem : Bool → Fin 2 → Fin 2 → DmaSem sig
  | false, s, q => at22 cc0_scratch3 s q
  | true, s, q => at22 cc0_scratch5 s q
/-- The cell of permissions to send again. -/
def credSem : Bool → Fin 2 → Sem sig
  | false, q => at2 cc0_scratch6 q
  | true, q => at2 cc0_scratch7 q
/-- The cell of the copies to the result. -/
def outSem : Bool → Fin 2 → DmaSem sig
  | false, q => at22 cc0_scratch8 0 q
  | true, q => at22 cc0_scratch8 1 q
/-- The barrier at the start. -/
def barSem : Sem sig := (SemArray.scalar (sig.barrier 0 rfl) : Sems sig S_).sem
/-- The barrier at the end. -/
def endSem : Sem sig := (cc0_scoped0 : Sems sig S_).sem

/-- A hop's number as the index the printed bounds are stated for. -/
def h7 (t : ℕ) : Fin 7 := ⟨t % 7, Nat.mod_lt _ (by decide)⟩

/-- The rows of `x` that hop `t` of a direction multiplies. -/
def xOff : Bool → ℕ → Dev nD → Fin 2 → ℕ
  | false, t, c => k0_off1 c (BitVec.ofNat 32 (h7 t).val)
  | true, t, c => k0_off2 c (BitVec.ofNat 32 (h7 t).val)

theorem xOff_inb (dir : Bool) (t : ℕ) (c : Dev nD) : ∀ a, xOff dir t c a + S512x512.size a ≤ S4096x512.size a := by
  cases dir
  · exact k0_off1_inb c (h7 t)
  · exact k0_off2_inb c (h7 t)

/-- Those rows, as a rectangle of `x`. -/
abbrev xRect (dir : Bool) (t : ℕ) (c : Dev nD) : Rect S4096x512 :=
  Rect.unit (s := S4096x512) (xOff dir t c) S512x512.size (xOff_inb dir t c)
/-- The device's own rows of `x`. -/
abbrev xOwn (c : Dev nD) : Rect S4096x512 :=
  Rect.unit (s := S4096x512) (k0_off3 c) S512x512.size (k0_off3_inb c)

/-- The staged block of `x`. -/
abbrev xM : Memref sig .tc .vmem S4096x512 .f32 := Memref.whole cc0_stg0_0
/-- The staged block of the weights. -/
abbrev wM : Memref sig .tc .vmem S512x8192 .f32 := Memref.whole cc0_stg1_0

/-- One product of a block of rows and a quarter of the weights. -/
def gemm (x : Vec F S512x512 .f32) (w : Vec F S512x2048 .f32) : FVec F S512x2048 .f32 :=
  matmul dot_S512x512_S512x2048_S512x2048_1_0_0_1_n_n none (shapeCast S512x512 x shapeCasts_S512x512_S512x512)
    (shapeCast S512x2048 w shapeCasts_S512x2048_S512x2048) (constant S512x2048 .f32 0x00000000#32)

/-- Loading a slot's quarter. -/
abbrev ldReg (dir : Bool) (s q : Fin 2) : Prog (TpuEff nD τ sig (Elt F) Λ₀ .tc) (Vec F S1x512x2048 .f32) :=
  Prog.lift (.load (buf dir) (rect s q).toLoadRect (View.loadsAt_vmem h_S1x512x2048))
/-- Loading rows of `x`. -/
abbrev ldX (r : Fin 2 → ℕ) (h : ∀ a, r a + S512x512.size a ≤ S4096x512.size a) :
    Prog (TpuEff nD τ sig (Elt F) Λ₀ .tc) (Vec F S512x512 .f32) :=
  Prog.lift (.load xM (Rect.unit (s := S4096x512) r S512x512.size h).toLoadRect (View.loadsAt_vmem h_S512x512))
/-- Loading a quarter of the weights. -/
abbrev ldW (dir : Bool) (q : Fin 2) : Prog (TpuEff nD τ sig (Elt F) Λ₀ .tc) (Vec F S512x2048 .f32) :=
  Prog.lift (.load wM (colRect dir q).toLoadRect (View.loadsAt_vmem h_S512x2048))
/-- Storing a slot's quarter. -/
abbrev stReg (dir : Bool) (s q : Fin 2) (v : FVec F S512x2048 .f32) : P F :=
  Prog.lift (.store (buf dir) (rect s q) (shapeCast S1x512x2048 v shapeCasts_S512x2048_S1x512x2048) Finset.univ
    (by cases dir <;> exact View.stores_vmem_bits_univ h_S1x512x2048 rfl) (.inl rfl))

/-- The first product of a direction's quarter, into slot 0. -/
def first (dir : Bool) (q : Fin 2) (c : Dev nD) : P F := do
  let x ← ldX (xOff dir 0 c) (xOff_inb dir 0 c)
  let w ← ldW dir q
  let _ ← ldReg dir 0 q
  stReg dir 0 q (gemm x w)

/-- A product added to what slot `s` holds, stored into slot `s'`. -/
def accum (dir : Bool) (s s' q : Fin 2) (r : Fin 2 → ℕ) (h : ∀ a, r a + S512x512.size a ≤ S4096x512.size a) : P F := do
  let v ← ldReg dir s q
  let x ← ldX r h
  let w ← ldW dir q
  let _ ← ldReg dir s' q
  stReg dir s' q (addf (shapeCast S512x2048 v shapeCasts_S1x512x2048_S512x2048) (gemm x w))

/-- The transfer of hop `t`. -/
def xfer (dir : Bool) (q : Fin 2) (t : ℕ) (c : Dev nD) : P F :=
  Prog.lift (.enqueueDma (reg dir (sl t) q)
    (.remote (Dev.tc (down dir c)) (reg dir (sl (t + 1)) q) (.dma (sendSem dir (sl t) q)))
    (.dma (recvSem dir (sl (t + 1)) q))
    (by cases dir <;> exact ((View.wordExact_bits rfl).reshape _ _))
    (by cases dir <;> exact ((View.wordExact_bits rfl).reshape _ _)) ⟨⟨rfl, Or.inl rfl⟩, trivial⟩)

/-- The waits for hop `t`'s transfer to have left and for the one from upstream to have arrived. -/
def settle (dir : Bool) (q : Fin 2) (t : ℕ) : P F := do
  Prog.lift (.waitDma2 (sendSem dir (sl t) q) (reg dir (sl (t + 1)) q) (reg dir (sl t) q)
    (by cases dir <;> exact ((View.wordExact_bits rfl).reshape _ _))
    (by cases dir <;> exact ((View.wordExact_bits rfl).reshape _ _)))
  Prog.lift (.waitDma2 (recvSem dir (sl (t + 1)) q) (reg dir (sl t) q) (reg dir (sl (t + 1)) q)
    (by cases dir <;> exact ((View.wordExact_bits rfl).reshape _ _))
    (by cases dir <;> exact ((View.wordExact_bits rfl).reshape _ _)))

/-- Telling upstream that a slot's quarter is free. -/
def grant (dir : Bool) (q : Fin 2) (c : Dev nD) : P F := semSignalWord (up dir c) (credSem dir q) 1#32

/-- Waiting to be told so by downstream. -/
def await (dir : Bool) (q : Fin 2) : P F := semWaitWord (credSem dir q) 1#32

/-- Both directions' first product of a quarter and its transfer. -/
def start (q : Fin 2) (c : Dev nD) : P F := do
  first false q c
  first true q c
  xfer false q 0 c
  xfer true q 0 c

/-- Hop `n + 1` of a quarter, both directions. -/
def hop (q : Fin 2) (n : ℕ) (c : Dev nD) : P F := do
  settle false q n
  settle true q n
  grant false q c
  grant true q c
  accum false (sl (n + 1)) (sl (n + 1)) q (xOff false (n + 1) c) (xOff_inb false (n + 1) c)
  accum true (sl (n + 1)) (sl (n + 1)) q (xOff true (n + 1) c) (xOff_inb true (n + 1) c)
  await false q
  await true q
  xfer false q (n + 1) c
  xfer true q (n + 1) c

/-- The hops after hop `n`, `k` of them. -/
def hops : ℕ → ℕ → Dev nD → P F
  | 0, _, _ => pure ⟨⟩
  | k + 1, n, c => do hop 0 n c; hop 1 n c; hops k (n + 1) c

/-- The copy of a finished quarter to the result. -/
def emit (dir : Bool) (q : Fin 2) : P F :=
  Prog.lift (.enqueueDma (reg dir 0 q) (.here (outReg dir q)) (.dma (outSem dir q))
    (by cases dir <;> exact ((View.wordExact_bits rfl).reshape _ _))
    (by cases dir <;> exact (View.wordExact_bits rfl)) ⟨Or.inl rfl, trivial⟩)

/-- The last sum of a quarter, both directions. -/
def last (q : Fin 2) (c : Dev nD) : P F := do
  settle false q 6
  settle true q 6
  accum false 1 0 q (k0_off3 c) (k0_off3_inb c)
  accum true 1 0 q (k0_off3 c) (k0_off3_inb c)
  emit false q
  emit true q

/-- The wait for a copy to the result. -/
def emitted (dir : Bool) (q : Fin 2) : P F :=
  Prog.lift (.waitDma2 (outSem dir q) (reg dir 0 q) (outReg dir q)
    (by cases dir <;> exact ((View.wordExact_bits rfl).reshape _ _))
    (by cases dir <;> exact (View.wordExact_bits rfl)))

/-- A barrier with both neighbours. -/
def meet (s : Sem sig) (c : Dev nD) : P F := do
  semSignalWord (up false c) s 1#32
  semSignalWord (up true c) s 1#32
  semWaitWord s 2#32

/-- The body on device `c`. -/
def body (c : Dev nD) : P F := do
  meet barSem c
  start 0 c
  start 1 c
  hops 6 0 c
  last 0 c
  last 1 c
  emitted false 0
  emitted true 0
  emitted false 1
  emitted true 1
  meet endSem c

set_option maxRecDepth 65536 in
/-- The printed body is the composition. -/
theorem body_eq (t : Fin cfg0.N) :
    bodyAt0 (F := F) t = Prog.lift .deviceId >>= fun c => body c := by
  obtain rfl : t = t0_0 := fin_N0 t
  rfl

end Cert.KernelIdeal.Hop

end
-- ==== Proof.Protocol.lean ====
module

public import proofs.«01_k».proof.Proof.Shape
public import Idealize.ShloMosaic.Lib.Pipeline.Launch
public import Idealize.ShloMosaic.Lib.Pipeline.Kit
public import Idealize.ShloMosaic.Lib.Tactic

/-!
# The protocol of the ring

A partial sum travels seven times around the ring in each direction, in two
quarters.  Transfer `t` of a quarter goes from slot `t % 2` of the sender to the
other slot of the receiver.  A receiver that has settled transfer `n` gives its
slot `n % 2` back to the device upstream, as permission for transfer `n + 1`.

This module names the cells, says what each round of a cell hands over, what a
device owes at each point, and at which level each wait stands.
-/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra -/

abbrev UB : Type := URounds (GSem nD τ sig) Bool
abbrev UU : Type := UR sig nD τ × UB

/-- The model: waits and dues are indexed by their level. -/
abbrev MM (F : FTy → Type) := MT nD τ sig ℕ (Elt F) ℕ UU ℕ

abbrev EP : Emb (UR sig nD τ) (MM F) := embL
abbrev ER : Emb UB (MM F) := embR

/-! ## The ring -/

theorem nxt_prv (c : Dev nD) : nxt (prv c) = c := by revert c; decide
theorem prv_nxt (c : Dev nD) : prv (nxt c) = c := by revert c; decide

theorem down_up (dir : Bool) (c : Dev nD) : down dir (up dir c) = c := by
  cases dir
  · exact nxt_prv c
  · exact prv_nxt c
theorem up_down (dir : Bool) (c : Dev nD) : up dir (down dir c) = c := by
  cases dir
  · exact prv_nxt c
  · exact nxt_prv c

/-- Going down the ring, as a bijection of the devices. -/
def ring (dir : Bool) : Dev nD ≃ Dev nD := ⟨down dir, up dir, up_down dir, down_up dir⟩

/-! ## The cells -/

/-- The kernel's semaphores. -/
inductive Cell where
  | bar
  | fin
  | cred (dir : Bool) (q : Fin 2)
  | send (dir : Bool) (s q : Fin 2)
  | recv (dir : Bool) (s q : Fin 2)
  | out (dir : Bool) (q : Fin 2)
  deriving DecidableEq

/-- The cells of one direction and quarter. -/
def lane (dir : Bool) (q : Fin 2) : List Cell :=
  [.cred dir q, .send dir 0 q, .send dir 1 q, .recv dir 0 q, .recv dir 1 q, .out dir q]
/-- The kernel's own cells. -/
def ownCells : List Cell := .fin :: (lane false 0 ++ lane false 1 ++ lane true 0 ++ lane true 1)

instance : Fintype Cell where
  elems := ⟨.bar :: ownCells, by decide⟩
  complete k := by
    cases k with
    | bar => decide
    | fin => decide
    | cred dir q => revert dir q; decide
    | send dir s q => revert dir s q; decide
    | recv dir s q => revert dir s q; decide
    | out dir q => revert dir q; decide

/-- Where a semaphore lies. -/
def spot : Cell → SemLoc sig
  | .bar => .reg barSem
  | .fin => .reg endSem
  | .cred dir q => .reg (credSem dir q)
  | .send dir s q => .dma (sendSem dir s q)
  | .recv dir s q => .dma (recvSem dir s q)
  | .out dir q => .dma (outSem dir q)

set_option maxRecDepth 100000 in
theorem spot_inj : Function.Injective spot := by
  have h : ∀ a b : Cell, spot a = spot b → a = b := by decide +kernel
  exact fun a b => h a b

/-- Which semaphore lies at a place. -/
def which : SemLoc sig → Option Cell := Function.partialInv spot

@[simp] theorem which_spot (k : Cell) : which (spot k) = some k := Function.partialInv_left spot_inj k

/-- A device's cell. -/
abbrev at_ (c : Dev nD) (k : Cell) : GSem nD τ sig := ((c : Thread nD τ), spot k)

/-- The units of one transfer. -/
def N : ℕ := (reg false 0 0).view.dmaCredit
theorem N_pos : 0 < N := View.dmaCredit_pos _ (by decide)
theorem reg_credit (dir : Bool) (s q : Fin 2) : (reg dir s q).view.dmaCredit = N := by
  cases dir <;> rfl
theorem out_credit (dir : Bool) (q : Fin 2) : (outReg dir q).view.dmaCredit = N := rfl

/-! ## The contents -/

variable (X : Dev nD → (cc0_stg0_0 : Ref sig .tc).ty.Contents (Elt F))
  (W : Dev nD → (cc0_stg1_0 : Ref sig .tc).ty.Contents (Elt F))

/-- A product of rows of the device's `x` and a quarter of its weights. -/
def part (dir : Bool) (q : Fin 2) (c : Dev nD) (r : Fin 2 → ℕ) (h : ∀ a, r a + S512x512.size a ≤ S4096x512.size a) :
    FVec F S512x2048 .f32 :=
  gemm (xM.view.readAt (Elt F) (Rect.unit (s := S4096x512) r S512x512.size h).toLoadRect (X c))
    (wM.view.readAt (Elt F) (colRect dir q).toLoadRect (W c))

/-- What transfer `t` of device `c` carries. -/
def acc (dir : Bool) (q : Fin 2) : ℕ → Dev nD → FVec F S512x2048 .f32
  | 0, c => part X W dir q c (xOff dir 0 c) (xOff_inb dir 0 c)
  | t + 1, c => addf (acc dir q t (up dir c)) (part X W dir q c (xOff dir (t + 1) c) (xOff_inb dir (t + 1) c))

/-- A quarter of a device's result. -/
def res (dir : Bool) (q : Fin 2) (c : Dev nD) : FVec F S512x2048 .f32 :=
  addf (acc X W dir q 6 (up dir c)) (part X W dir q c (k0_off3 c) (k0_off3_inb c))

/-! ## What a round hands over -/

/-- A slot's quarter, whatever it holds. -/
def anyReg (dir : Bool) (s q : Fin 2) (c : Dev nD) : sProp (MM F) :=
  iprop(∃ v, owns (c : Thread nD τ) (reg dir s q) fullShare v)

instance anyReg_storable (dir : Bool) (s q : Fin 2) (c : Dev nD) :
    BI.Storable (upEmb : UEmb _ (MM F)) (anyReg (F := F) dir s q c) := by unfold anyReg; infer_instance

/-- The transfer that round `r` of a receiving cell counts. -/
abbrev trn (s : Fin 2) (r : ℕ) : ℕ := 2 * r + (s.val + 1) % 2

/-- What duty `d` of round `r` of a cell hands its owner. -/
def pay (c : Dev nD) (k : Cell) (r : ℕ) (d : Bool) : sProp (MM F) :=
  match k with
  | .bar => iprop(anyReg d 1 0 (down d c) ∗ anyReg d 1 1 (down d c))
  | .fin => iprop(emp)
  | .cred dir q => iprop(anyReg dir (sl r) q (down dir c) ∗ reached ER (at_ (down dir c) (.recv dir (sl r) q)) ((r + 1) / 2))
  | .send dir s q => anyReg dir s q c
  | .recv dir s q => iprop(owns (c : Thread nD τ) (reg dir s q) fullShare (acc X W dir q (trn s r) (up dir c))
      ∗ reached ER (at_ (up dir c) (.cred dir q)) (trn s r))
  | .out dir q => iprop(owns (c : Thread nD τ) (outReg dir q) fullShare (res X W dir q c) ∗ anyReg dir 0 q c)

instance pay_storable (c : Dev nD) (k : Cell) (r : ℕ) (d : Bool) :
    BI.Storable (upEmb : UEmb _ (MM F)) (pay X W c k r d) := by
  cases k <;> (unfold pay; infer_instance)

/-- The duties of a round. -/
def dut (k : Cell) (r : ℕ) : Finset Bool :=
  match k with
  | .bar | .fin => if r < 1 then Finset.univ else ∅
  | .cred _ _ => if r < 6 then {false} else ∅
  | .send _ s _ => if 2 * r + s.val < 7 then {false} else ∅
  | .recv _ s _ => if trn s r < 7 then {false} else ∅
  | .out _ _ => if r < 1 then {false} else ∅

/-- The units of a duty. -/
def amt : Cell → ℕ
  | .bar | .fin | .cred _ _ => 1
  | .send _ _ _ | .recv _ _ _ | .out _ _ => N

theorem amt_pos (k : Cell) : 0 < amt k := by
  cases k <;> first | exact N_pos | exact Nat.one_pos

/-- The schedule of all cells. -/
def Rd : Rounds.Schedule (GSem nD τ sig) Bool (MM F) where
  duties g r := if g.1.2 = .tc then (which g.2).elim ∅ fun k => dut k r else ∅
  unitless _ := False
  amount g _ _ := (which g.2).elim 1 amt
  payload g r d := (which g.2).elim iprop(emp) fun k => pay X W g.1.1 k r d
  amount_pos g _ _ _ := by
    rcases which g.2 with _ | k
    · exact Nat.one_pos
    · exact amt_pos k

instance Rd_payload_storable (g : GSem nD τ sig) (r : ℕ) (d : Bool) :
    BI.Storable (upEmb : UEmb _ (MM F)) ((Rd X W).payload g r d) := by
  show BI.Storable upEmb ((which g.2).elim iprop(emp) fun k => pay X W g.1.1 k r d)
  rcases which g.2 with _ | k
  · show BI.Storable upEmb iprop(emp); infer_instance
  · show BI.Storable upEmb (pay X W g.1.1 k r d); infer_instance

section Sched
variable (c : Dev nD) (k : Cell) (r : ℕ) (d : Bool)

theorem duties_at : (Rd X W).duties (at_ c k) r = dut k r := by
  show (if (Proc.tc : Proc τ) = Proc.tc then (which (spot k)).elim ∅ fun k => dut k r else ∅) = _
  rw [if_pos rfl, which_spot]; rfl
theorem amount_at : (Rd X W).amount (at_ c k) r d = amt k := by
  show (which (spot k)).elim 1 amt = _
  rw [which_spot]; rfl
theorem payload_at : (Rd X W).payload (at_ c k) r d = pay X W c k r d := by
  show (which (spot k)).elim iprop(emp) (fun k => pay X W c k r d) = _
  rw [which_spot]; rfl

theorem expect_at : (Rd X W).expect (at_ c k) r = (dut k r).card * amt k := by
  unfold Schedule.expect Schedule.amountOf
  rw [Finset.sum_congr rfl fun d _ => amount_at X W c k r d, Finset.sum_const, duties_at, smul_eq_mul]

/-- The rest of a round with one duty. -/
theorem rest_one (h : dut k r = {false}) :
    bigSep ((Rd X W).duties (at_ c k) r \ ∅) (fun d => (Rd X W).payload (at_ c k) r d) = pay X W c k r false := by
  rw [Finset.sdiff_empty, duties_at, h, bigSep_singleton, payload_at]
/-- The rest of a round with two. -/
theorem rest_two (h : dut k r = Finset.univ) :
    bigSep ((Rd X W).duties (at_ c k) r \ ∅) (fun d => (Rd X W).payload (at_ c k) r d)
      = iprop(pay X W c k r false ∗ pay X W c k r true) := by
  rw [Finset.sdiff_empty, duties_at, h, bigSep_univ_eq_bigSepL [false, true] (by decide) (by decide), bigSepL_cons_cons,
    bigSepL_singleton, payload_at, payload_at]
  rfl

/-- The number of rounds of a cell. -/
def rounds : Cell → ℕ
  | .bar | .fin | .out _ _ => 1
  | .cred _ _ => 6
  | .send _ s _ => 4 - s.val
  | .recv _ s _ => 3 + s.val

theorem dut_later (h : rounds k ≤ r) : dut k r = ∅ := by
  cases k with
  | bar => exact if_neg (by simp only [rounds] at h; omega)
  | fin => exact if_neg (by simp only [rounds] at h; omega)
  | cred dir q => exact if_neg (by simp only [rounds] at h; omega)
  | send dir s q => exact if_neg (by simp only [rounds] at h; omega)
  | recv dir s q => exact if_neg (by simp only [rounds, trn] at h ⊢; omega)
  | out dir q => exact if_neg (by simp only [rounds] at h; omega)

end Sched

/-! ## Slots and rounds -/

theorem sl_val (n : ℕ) : (sl n).val = n % 2 := rfl
theorem sl_two (n : ℕ) : sl (n + 2) = sl n := Fin.ext (by rw [sl_val, sl_val]; omega)
theorem half_two (n : ℕ) : (n + 2) / 2 = n / 2 + 1 := by omega
theorem send_trn (t : ℕ) : 2 * (t / 2) + (sl t).val = t := by rw [sl_val]; omega
theorem recv_trn (t : ℕ) : trn (sl (t + 1)) (t / 2) = t := by unfold trn; rw [sl_val]; omega

theorem dut_send (dir : Bool) (q : Fin 2) {t : ℕ} (h : t < 7) : dut (.send dir (sl t) q) (t / 2) = {false} :=
  if_pos (by rw [send_trn]; exact h)
theorem dut_recv (dir : Bool) (q : Fin 2) {t : ℕ} (h : t < 7) : dut (.recv dir (sl (t + 1)) q) (t / 2) = {false} :=
  if_pos (by rw [recv_trn]; exact h)
theorem dut_cred (dir : Bool) (q : Fin 2) {n : ℕ} (h : n < 6) : dut (.cred dir q) n = {false} := if_pos h

/-! ## Levels and dues -/

/-- The level of the arrival of transfer `t`. -/
def lvRecv (t : ℕ) (q : Fin 2) : ℕ := 4 * t + 2 * q.val + 3
/-- The level of the permission for transfer `n + 1`. -/
def lvCred (n : ℕ) (q : Fin 2) : ℕ := 4 * n + 2 * q.val + 6

/-- Every level may be used on a device's cells. -/
def L (g : GSem nD τ sig) : Finset ℕ := if g.1.2 = .tc then Finset.range 41 else ∅
/-- An index is its own level. -/
def lv (_ : GSem nD τ sig) (i : ℕ) : ℕ := i

theorem L_tc (c : Dev nD) (sm : SemLoc sig) : L ((c : Thread nD τ), sm) = Finset.range 41 := if_pos rfl

abbrev Tally := CellTallies nD τ sig ℕ

/-- The unit a device owes the neighbour upstream at the first barrier. -/
def dueBar (dir : Bool) (c : Dev nD) : Tally := tallyAt (at_ (up dir c) .bar) 1 1
/-- The same at the last barrier. -/
def dueFin (dir : Bool) (c : Dev nD) : Tally := tallyAt (at_ (up dir c) .fin) 40 1
/-- The arrival a device owes downstream by transfer `t`. -/
def dueRecv (dir : Bool) (q : Fin 2) (t : ℕ) (c : Dev nD) : Tally :=
  tallyAt (at_ (down dir c) (.recv dir (sl (t + 1)) q)) (lvRecv t q) N
/-- The permission a device owes upstream after transfer `n`. -/
def dueCred (dir : Bool) (q : Fin 2) (n : ℕ) (c : Dev nD) : Tally :=
  tallyAt (at_ (up dir c) (.cred dir q)) (lvCred n q) 1

/-- What is owed once all transfers are done. -/
def dueEnd (c : Dev nD) : Tally := (0 + dueFin true c) + dueFin false c
/-- What hop `n + 1` of a quarter pays, above what is owed later. -/
def pend (O : Tally) (q : Fin 2) (n : ℕ) (c : Dev nD) : Tally :=
  (((O + dueRecv true q (n + 1) c) + dueRecv false q (n + 1) c) + dueCred true q n c) + dueCred false q n c
/-- What is owed before the `k` hops after hop `n`. -/
def due : ℕ → ℕ → Dev nD → Tally
  | 0, _, c => dueEnd c
  | k + 1, n, c => pend (pend (due k (n + 1) c) 1 n c) 0 n c
/-- What is owed after the first barrier. -/
def dueStart (c : Dev nD) : Tally :=
  ((((due 6 0 c + dueRecv true 1 0 c) + dueRecv false 1 0 c) + dueRecv true 0 0 c) + dueRecv false 0 0 c)
/-- What a device owes at the start. -/
def dueAll (c : Dev nD) : Tally := (dueStart c + dueBar true c) + dueBar false c

/-- Every due lies on a device's cell, at a level above `n`. -/
def Above (n : ℕ) (O : Tally) : Prop := ∀ g i, 0 < O g i → g.1.2 = .tc ∧ n < i ∧ i < 41

theorem Above.zero (n : ℕ) : Above n 0 := fun _ _ h => absurd h (Nat.lt_irrefl 0)
theorem Above.mono {n n' : ℕ} {O : Tally} (h : Above n O) (hn : n' ≤ n) : Above n' O :=
  fun g i hg => ⟨(h g i hg).1, lt_of_le_of_lt hn (h g i hg).2.1, (h g i hg).2.2⟩
theorem Above.add {n : ℕ} {O O' : Tally} (h : Above n O) (h' : Above n O') : Above n (O + O') := fun g i hg =>
  (Pipeline.add_pos_cases hg).elim (h g i) (h' g i)
theorem Above.tally {n : ℕ} (c : Dev nD) (k : Cell) {i : ℕ} (a : ℕ) (h : n < i) (h' : i < 41) :
    Above n (tallyAt (at_ c k) i a) := fun g j hg => by
  obtain ⟨rfl, rfl⟩ := Pipeline.tallyAt_pos hg
  exact ⟨rfl, h, h'⟩

theorem Above.mayWait {n : ℕ} {O : Tally} (h : Above n O) (hn : n < 41) (c : Dev nD) (sm : SemLoc sig) :
    (levAts L lv : sProp (MM F)) ⊢ MayWait (c : Thread nD τ) sm n O :=
  Pipeline.mayWait_of_levAts (by rw [L_tc]; exact Finset.mem_range.mpr hn) fun g i hg =>
    ⟨by obtain ⟨h1, -, h2⟩ := h g i hg; unfold L; rw [if_pos h1]; exact Finset.mem_range.mpr h2, (h g i hg).2.1⟩

theorem Above.recv {n : ℕ} (dir : Bool) (q : Fin 2) (t : ℕ) (c : Dev nD) (h : n < lvRecv t q) (ht : t < 7) :
    Above n (dueRecv dir q t c) := .tally _ _ _ h (by unfold lvRecv; omega)
theorem Above.cred {m : ℕ} (dir : Bool) (q : Fin 2) (n : ℕ) (c : Dev nD) (h : m < lvCred n q) (ht : n < 6) :
    Above m (dueCred dir q n c) := .tally _ _ _ h (by unfold lvCred; omega)

theorem Above.fin {n : ℕ} (h : n < 40) (c : Dev nD) : Above n (dueEnd c) :=
  ((Above.zero n).add (.tally _ _ _ h (by decide))).add (.tally _ _ _ h (by decide))

theorem Above.pend {m : ℕ} {O : Tally} (hO : Above m O) {q : Fin 2} {n : ℕ} (c : Dev nD) (h : m < lvCred n q) (hn : n < 6) :
    Above m (pend O q n c) := by
  have h' : m < lvRecv (n + 1) q := by unfold lvCred at h; unfold lvRecv; omega
  exact (((hO.add (.recv _ _ _ c h' (by omega))).add (.recv _ _ _ c h' (by omega))).add (.cred _ _ _ c h hn)).add (.cred _ _ _ c h hn)

theorem Above.due (c : Dev nD) : ∀ (k n : ℕ), n + k ≤ 6 → Above (4 * n + 5) (due k n c)
  | 0, n, h => .fin (by omega) c
  | k + 1, n, h =>
    have h1 := (Above.due c k (n + 1) (by omega)).mono (n' := 4 * n + 5) (by omega)
    (h1.pend c (by unfold lvCred; omega) (by omega)).pend c (by unfold lvCred; omega) (by omega)

theorem Above.start {n : ℕ} (h : n < 3) (c : Dev nD) : Above n (dueStart c) :=
  ((((((Above.due c 6 0 (by decide)).mono (by omega)).add (.recv _ _ _ c (by unfold lvRecv; omega) (by omega))).add
    (.recv _ _ _ c (by unfold lvRecv; omega) (by omega))).add (.recv _ _ _ c (by unfold lvRecv; omega) (by omega))).add
    (.recv _ _ _ c (by unfold lvRecv; omega) (by omega)))

theorem Above.all (c : Dev nD) : Above 0 (dueAll c) :=
  ((Above.start (by decide) c).add (.tally _ _ _ (by decide) (by decide))).add (.tally _ _ _ (by decide) (by decide))

end Cert.KernelIdeal.Hop

end
-- ==== Proof.Steps.lean ====
module

public import proofs.«01_k».proof.Proof.Protocol
public import Idealize.ShloMosaic.Lib.Pipeline.Value

/-!
# One rule for each piece of the body

Each rule says what a piece of the body needs and what it leaves, at any
direction, quarter and hop.
-/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → (cc0_stg0_0 : Ref sig .tc).ty.Contents (Elt F))
  (W : Dev nD → (cc0_stg1_0 : Ref sig .tc).ty.Contents (Elt F))

abbrev 𝒱₀ : Variants := Variants.none

/-- Running a piece of the body on device `c`. -/
abbrev run (c : Dev nD) (p : P F) (Q : PUnit → sProp (MM F)) : sProp (MM F) :=
  wp frame (wpE (defs₀ (F := F)) 𝒱₀ (c : Thread nD τ) none) Set.univ p Q

/-! ## What every step may use -/

/-- The invariants of all cells, that every cell has reached its first round, and the levels. -/
def ctx (K : Dev nD × Cell → ℕ) : sProp (MM F) :=
  iprop((bigSep Finset.univ fun ck : Dev nD × Cell => cellInv ER (Rd X W) (K ck) (at_ ck.1 ck.2))
    ∗ (bigSep Finset.univ fun ck : Dev nD × Cell => reached ER (at_ ck.1 ck.2) 0) ∗ levAts L lv)

instance ctx_persistent (K : Dev nD × Cell → ℕ) : BI.Persistent (ctx X W K) := by unfold ctx; infer_instance

variable (K : Dev nD × Cell → ℕ)

theorem ctx_inv (c : Dev nD) (k : Cell) : ctx X W K ⊢ cellInv ER (Rd X W) (K (c, k)) (at_ c k) := by
  unfold ctx
  exact sep_elim_left.trans (bigSep_elim (i := (c, k)) (Finset.mem_univ _))
theorem ctx_reached (c : Dev nD) (k : Cell) : ctx X W K ⊢ reached ER (at_ c k) 0 := by
  unfold ctx
  exact sep_elim_right.trans (sep_elim_left.trans (bigSep_elim (i := (c, k)) (Finset.mem_univ _)))
theorem ctx_levels : ctx X W K ⊢ levAts L lv := by
  unfold ctx
  iintro ⟨-, -, H⟩
  iexact H

/-- What a device still owes, whatever it has waited for. -/
def ow (O : Tally) (c : Dev nD) : sProp (MM F) := iprop(∃ Ws, owes (c : Thread nD τ) O Ws)

/-- A device's staged blocks. -/
def ops (c : Dev nD) : sProp (MM F) :=
  iprop((((c : Thread nD τ).loc cc0_stg0_0) ↦{fullShare} X c) ∗ (((c : Thread nD τ).loc cc0_stg1_0) ↦{fullShare} W c))

/-! ## Waiting and signalling at a cell -/

section Cells
variable (c : Dev nD) (k : Cell) {Q : PUnit → sProp (MM F)}

/-- A wait for the rest of round `r` of a cell. -/
theorem wait_cell {w : TpuEff nD τ sig (Elt F) Λ₀ .tc PUnit} {a : ℕ} (r : ℕ) (i : ℕ) {O : Tally} (f : PUnit → P F)
    (hw : ∀ R : PUnit → sProp (MM F), wpE (defs₀ (F := F)) 𝒱₀ (c : Thread nD τ) none Set.univ w R = waitSpec (c : Thread nD τ) Set.univ (spot k) a R)
    (ha : (dut k r).card * amt k = a) (hO : Above i O) (hi : i < 41) :
    iprop(ctx X W K ∗ ow O c ∗ cred (tallyAt (at_ c k) i a) ∗ atPos ER (at_ c k) r ∅ 0)
      ⊢ iprop(((ow O c ∗ atPos ER (at_ c k) (r + 1) ∅ 0 ∗ reached ER (at_ c k) (r + 1)
          ∗ bigSep ((Rd X W).duties (at_ c k) r \ ∅) (fun d => (Rd X W).payload (at_ c k) r d)) -∗ run c (f ⟨⟩) Q)
        -∗ run c (.op w f) Q) := by
  unfold ow
  iintro ⟨#Hctx, ⟨%Ws, HO⟩, Hc, Hat⟩ Hk
  iapply (Rounds.wp_wait_rest_token 𝒱₀ ER (Rd X W) (c : Thread nD τ) none (κ := K (c, k)) hw (Set.mem_univ _) i
    (O := O) (W := Ws) (R := r) (m := 0) (T := ∅) (by rw [expect_at, Nat.zero_add]; exact ha.symm)) $$ [Hc HO Hat]
  · isplitr; · iapply (ctx_inv X W K c k); iexact Hctx
    isplitl [Hc]; · iexact Hc
    isplitl [HO]; · iexact HO
    isplitr; · iapply (hO.mayWait hi c (spot k)); iapply (ctx_levels X W K); iexact Hctx
    iexact Hat
  iintro ⟨HO, Hat, Hr, Hp⟩
  iapply Hk
  isplitl [HO]; · iexists _; iexact HO
  isplitl [Hat]; · iexact Hat
  isplitl [Hr]; · iexact Hr
  iexact Hp

/-- A signal of one unit to a cell of another device. -/
theorem signal_cell (c' : Dev nD) (sem : Sem sig) (hs : spot k = .reg sem) (r : ℕ) (d : Bool) (i : ℕ) {O : Tally} (f : PUnit → P F)
    (hd : d ∈ dut k r) (ha : amt k = 1) :
    iprop(ctx X W K ∗ ow (O + tallyAt (at_ c' k) i 1) c ∗ dutyTok ER (at_ c' k) r d ∗ pay X W c' k r d ∗ reached ER (at_ c' k) r)
      ⊢ iprop((ow O c -∗ run c (f ⟨⟩) Q) -∗ run c (semSignalWord c' sem 1#32 >>= f) Q) := by
  have hg : at_ c' k = ((c' : Thread nD τ), .reg sem) := Prod.ext rfl hs
  have hd' : d ∈ (Rd X W).duties ((c' : Thread nD τ), .reg sem) r := by rw [← hg, duties_at]; exact hd
  have hk' : (Rd X W).amount ((c' : Thread nD τ), .reg sem) r d = 1 := by rw [← hg, amount_at]; exact ha
  simp only [semSignalWord, Prog.lift, Prog.bind_op, Prog.bind_ret, Prog.pure_eq_ret]
  have hi := ctx_inv X W K c' k
  rw [← payload_at X W c' k r d]
  rw [hg] at hi ⊢
  unfold ow
  iintro ⟨#Hctx, ⟨%Ws, HO⟩, Ht, Hp, Hr⟩ Hk
  ihave #Hi := hi $$ Hctx
  iapply (Rounds.wp_signal 𝒱₀ ER (Rd X W) (c : Thread nD τ) none (dst := (c' : Thread nD τ)) (κ := K (c', k)) (d := d) hd'
    (hk'.trans (by decide)) i O rfl) $$ [HO Ht Hp Hr]
  · isplitr; · iexact Hi
    isplitl [HO]; · iexact HO
    isplitl [Ht]; · iexact Ht
    isplitl [Hp]; · iexact Hp
    iexact Hr
  iintro HO
  iapply Hk
  iexists _; iexact HO

end Cells

/-! ## Loads and stores -/

section Memory
variable (c : Dev nD) {Q : PUnit → sProp (MM F)}

theorem region_set (dir : Bool) (s q : Fin 2) : ((buf dir).access (rect s q)).set = (reg dir s q).view.set :=
  (View.set_reshape _ _).symm

/-- The elements of a slot's quarter, seen in the buffer the loads and stores name. -/
theorem region_pts (dir : Bool) (s q : Fin 2) (g : (reg dir s q).view.ty.Contents (Elt F)) :
    ((reg dir s q).view.loc (c : Thread nD τ) ↦[(reg dir s q).view.set]{fullShare} g : sProp (MM F))
      = (((buf dir).access (rect s q)).loc (c : Thread nD τ) ↦[(reg dir s q).view.set]{fullShare} g) := rfl

/-- Loading a slot's quarter gives what it holds. -/
theorem ldReg_rule (dir : Bool) (s q : Fin 2) (v : FVec F S512x2048 .f32) (f : Vec F S1x512x2048 .f32 → P F) :
    owns (c : Thread nD τ) (reg dir s q) fullShare v
      ⊢ iprop((owns (c : Thread nD τ) (reg dir s q) fullShare v
          -∗ run c (f (shapeCast S1x512x2048 v shapeCasts_S512x2048_S1x512x2048)) Q)
        -∗ run c (ldReg dir s q >>= f) Q) := by
  unfold owns
  iintro ⟨%g, %hg, H⟩ Hk
  have hv : ((buf dir).access (rect s q)).read (Elt F) g = shapeCast S1x512x2048 v shapeCasts_S512x2048_S1x512x2048 := by
    rw [← hg]
    exact (shapeCast_shapeCast (((buf dir).access (rect s q)).read (Elt F) g) shapeCasts_S1x512x2048_S512x2048 _).symm
  simp only [ldReg, Prog.bind_lift]
  ihave H := (Entails.of_eq (region_pts c dir s q g)) $$ H
  iapply (wp_load_rect 𝒱₀ (c : Thread nD τ) none Set.univ (m := buf dir) (r := rect s q) (f := g) (q := fullShare)
    (S := (reg dir s q).view.set) ((region_set dir s q).le)) $$ H
  iintro H
  rw [hv]
  iapply Hk
  iexists g
  isplitr; · ipureintro; exact hg
  iexact H

/-- Storing into a slot's quarter leaves it holding the stored value. -/
theorem stReg_rule (dir : Bool) (s q : Fin 2) (v : FVec F S512x2048 .f32) (f : PUnit → P F) :
    anyReg dir s q c
      ⊢ iprop((owns (c : Thread nD τ) (reg dir s q) fullShare v -∗ run c (f ⟨⟩) Q)
        -∗ run c (stReg dir s q v >>= f) Q) := by
  unfold anyReg owns
  iintro ⟨%v0, %g, %hg, H⟩ Hk
  have hv : (reg dir s q).view.read (Elt F) (((buf dir).access (rect s q)).write (Elt F) g
      (shapeCast S1x512x2048 v shapeCasts_S512x2048_S1x512x2048) Finset.univ) = v := by
    have h := congrArg (fun u => shapeCast S512x2048 u shapeCasts_S1x512x2048_S512x2048)
      (View.read_write_univ (v := (buf dir).access (rect s q)) g (shapeCast S1x512x2048 v shapeCasts_S512x2048_S1x512x2048))
    exact h.trans (shapeCast_shapeCast v _ _)
  simp only [stReg, Prog.bind_lift]
  ihave H := (Entails.of_eq (region_pts c dir s q g)) $$ H
  iapply (wp_store 𝒱₀ (c : Thread nD τ) none Set.univ (m := buf dir) (r := rect s q) (f := g) (Mk := Finset.univ)
    (S := (reg dir s q).view.set) (((View.setOn_univ _).trans (region_set dir s q)).le)) $$ H
  iintro H
  iapply Hk
  iexists _
  isplitr; · ipureintro; exact hv
  iexact H

theorem ldX_rule (r : Fin 2 → ℕ) (h : ∀ a, r a + S512x512.size a ≤ S4096x512.size a) (f : Vec F S512x512 .f32 → P F) :
    ops X W c
      ⊢ iprop((ops X W c -∗ run c (f (xM.view.readAt (Elt F) (Rect.unit (s := S4096x512) r S512x512.size h).toLoadRect (X c))) Q)
        -∗ run c (ldX r h >>= f) Q) := by
  unfold ops
  iintro ⟨Hx, Hw⟩ Hk
  simp only [ldX, Prog.bind_lift]
  iapply (wp_load 𝒱₀ (c : Thread nD τ) none Set.univ (m := xM) (Finset.subset_univ _)) $$ Hx
  iintro Hx
  iapply Hk
  isplitl [Hx] <;> iassumption

theorem ldW_rule (dir : Bool) (q : Fin 2) (f : Vec F S512x2048 .f32 → P F) :
    ops X W c
      ⊢ iprop((ops X W c -∗ run c (f (wM.view.readAt (Elt F) (colRect dir q).toLoadRect (W c))) Q)
        -∗ run c (ldW dir q >>= f) Q) := by
  unfold ops
  iintro ⟨Hx, Hw⟩ Hk
  simp only [ldW, Prog.bind_lift]
  iapply (wp_load 𝒱₀ (c : Thread nD τ) none Set.univ (m := wM) (Finset.subset_univ _)) $$ Hw
  iintro Hw
  iapply Hk
  isplitl [Hx] <;> iassumption

/-- The first product of a quarter. -/
theorem first_rule (dir : Bool) (q : Fin 2) (f : PUnit → P F) :
    iprop(ops X W c ∗ anyReg dir 0 q c)
      ⊢ iprop(((ops X W c ∗ owns (c : Thread nD τ) (reg dir 0 q) fullShare (acc X W dir q 0 c)) -∗ run c (f ⟨⟩) Q)
        -∗ run c (first dir q c >>= f) Q) := by
  simp only [first, bind_assoc]
  unfold anyReg
  iintro ⟨Ho, ⟨%v, Hr⟩⟩ Hk
  iapply (ldX_rule X W c) $$ Ho; iintro Ho
  iapply (ldW_rule X W c) $$ Ho; iintro Ho
  iapply (ldReg_rule c) $$ Hr; iintro Hr
  iapply (stReg_rule c) $$ [Hr]
  · unfold anyReg; iexists v; iexact Hr
  iintro Hr
  iapply Hk
  isplitl [Ho]; · iexact Ho
  iexact Hr

/-- A product added to what a slot's quarter holds, in place. -/
theorem accum_rule (dir : Bool) (s q : Fin 2) (r : Fin 2 → ℕ) (h : ∀ a, r a + S512x512.size a ≤ S4096x512.size a)
    (v : FVec F S512x2048 .f32) (f : PUnit → P F) :
    iprop(ops X W c ∗ owns (c : Thread nD τ) (reg dir s q) fullShare v)
      ⊢ iprop(((ops X W c ∗ owns (c : Thread nD τ) (reg dir s q) fullShare (addf v (part X W dir q c r h))) -∗ run c (f ⟨⟩) Q)
        -∗ run c (accum dir s s q r h >>= f) Q) := by
  simp only [accum, bind_assoc]
  iintro ⟨Ho, Hr⟩ Hk
  iapply (ldReg_rule c) $$ Hr; iintro Hr
  iapply (ldX_rule X W c) $$ Ho; iintro Ho
  iapply (ldW_rule X W c) $$ Ho; iintro Ho
  iapply (ldReg_rule c) $$ Hr; iintro Hr
  rw [shapeCast_shapeCast]
  iapply (stReg_rule c) $$ [Hr]
  · unfold anyReg; iexists v; iexact Hr
  iintro Hr
  iapply Hk
  isplitl [Ho]; · iexact Ho
  iexact Hr

/-- The same into the other slot. -/
theorem accum_rule' (dir : Bool) (s s' q : Fin 2) (r : Fin 2 → ℕ) (h : ∀ a, r a + S512x512.size a ≤ S4096x512.size a)
    (v : FVec F S512x2048 .f32) (f : PUnit → P F) :
    iprop(ops X W c ∗ owns (c : Thread nD τ) (reg dir s q) fullShare v ∗ anyReg dir s' q c)
      ⊢ iprop(((ops X W c ∗ owns (c : Thread nD τ) (reg dir s q) fullShare v
            ∗ owns (c : Thread nD τ) (reg dir s' q) fullShare (addf v (part X W dir q c r h))) -∗ run c (f ⟨⟩) Q)
        -∗ run c (accum dir s s' q r h >>= f) Q) := by
  simp only [accum, bind_assoc]
  unfold anyReg
  iintro ⟨Ho, Hr, ⟨%v', Hr'⟩⟩ Hk
  iapply (ldReg_rule c) $$ Hr; iintro Hr
  iapply (ldX_rule X W c) $$ Ho; iintro Ho
  iapply (ldW_rule X W c) $$ Ho; iintro Ho
  iapply (ldReg_rule c) $$ Hr'; iintro Hr'
  rw [shapeCast_shapeCast]
  iapply (stReg_rule c) $$ [Hr']
  · unfold anyReg; iexists v'; iexact Hr'
  iintro Hr'
  iapply Hk
  isplitl [Ho]; · iexact Ho
  isplitl [Hr]; · iexact Hr
  iexact Hr'

end Memory

end Cert.KernelIdeal.Hop

end
-- ==== Proof.Lanes.lean ====
module

public import proofs.«01_k».proof.Proof.Steps

/-!
# The rules of the transfers

What the waits, permissions, transfers and copies of one direction and quarter
need and leave, at any hop; then one hop, and one hop after another.
-/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → (cc0_stg0_0 : Ref sig .tc).ty.Contents (Elt F))
  (W : Dev nD → (cc0_stg1_0 : Ref sig .tc).ty.Contents (Elt F))
variable (K : Dev nD × Cell → ℕ) (c : Dev nD) {Q : PUnit → sProp (MM F)}

section Pieces
variable (dir : Bool) (q : Fin 2) {O : Tally} (f : PUnit → P F)

/-- After the waits of transfer `n`: the slot it left is free, the other holds what arrived. -/
theorem settle_rule {n : ℕ} (hn : n < 7) (hO : Above (lvRecv n q) O) :
    iprop(ctx X W K ∗ ow O c
        ∗ cred (tallyAt (at_ c (.send dir (sl n) q)) 0 N) ∗ atPos ER (at_ c (.send dir (sl n) q)) (n / 2) ∅ 0
        ∗ cred (tallyAt (at_ c (.recv dir (sl (n + 1)) q)) (lvRecv n q) N) ∗ atPos ER (at_ c (.recv dir (sl (n + 1)) q)) (n / 2) ∅ 0)
      ⊢ iprop(((ow O c
          ∗ atPos ER (at_ c (.send dir (sl n) q)) (n / 2 + 1) ∅ 0 ∗ reached ER (at_ c (.send dir (sl n) q)) (n / 2 + 1)
          ∗ atPos ER (at_ c (.recv dir (sl (n + 1)) q)) (n / 2 + 1) ∅ 0 ∗ reached ER (at_ c (.recv dir (sl (n + 1)) q)) (n / 2 + 1)
          ∗ anyReg dir (sl n) q c
          ∗ owns (c : Thread nD τ) (reg dir (sl (n + 1)) q) fullShare (acc X W dir q n (up dir c))
          ∗ reached ER (at_ (up dir c) (.cred dir q)) n) -∗ run c (f ⟨⟩) Q)
        -∗ run c (settle dir q n >>= f) Q) := by
  have hlv : lvRecv n q < 41 := by unfold lvRecv; omega
  have hr := rest_one X W c (.recv dir (sl (n + 1)) q) (n / 2) (dut_recv dir q hn)
  have hs := rest_one X W c (.send dir (sl n) q) (n / 2) (dut_send dir q hn)
  simp only [pay, recv_trn] at hr hs
  simp only [settle, bind_assoc, Prog.bind_lift]
  iintro ⟨#Hctx, HO, HcS, HaS, HcR, HaR⟩ Hk
  iapply (wait_cell X W K c (.send dir (sl n) q) (n / 2) 0 _
    (fun R => (wpE_waitDma2_eq 𝒱₀ (c : Thread nD τ) none Set.univ R).trans (by rw [reg_credit]; rfl))
    (by rw [dut_send dir q hn]; exact Nat.one_mul _) (hO.mono (Nat.zero_le _)) (by decide)) $$ [HO HcS HaS]
  · isplitr; · iexact Hctx
    isplitl [HO]; · iexact HO
    isplitl [HcS] <;> iassumption
  iintro ⟨HO, HaS, HrS, HpS⟩
  ihave HpS := (Entails.of_eq hs) $$ HpS
  iapply (wait_cell X W K c (.recv dir (sl (n + 1)) q) (n / 2) (lvRecv n q) _
    (fun R => (wpE_waitDma2_eq 𝒱₀ (c : Thread nD τ) none Set.univ R).trans (by rw [reg_credit]; rfl))
    (by rw [dut_recv dir q hn]; exact Nat.one_mul _) hO hlv) $$ [HO HcR HaR]
  · isplitr; · iexact Hctx
    isplitl [HO]; · iexact HO
    isplitl [HcR] <;> iassumption
  iintro ⟨HO, HaR, HrR, HpR⟩
  ihave HpR := (Entails.of_eq hr) $$ HpR
  icases HpR with ⟨Hreg, Hcr⟩
  iapply Hk
  isplitl [HO]; · iexact HO
  isplitl [HaS]; · iexact HaS
  isplitl [HrS]; · iexact HrS
  isplitl [HaR]; · iexact HaR
  isplitl [HrR]; · iexact HrR
  isplitl [HpS]; · iexact HpS
  isplitl [Hreg] <;> iassumption

/-- The freed slot goes upstream. -/
theorem grant_rule {n : ℕ} (hn : n < 6) :
    iprop(ctx X W K ∗ ow (O + dueCred dir q n c) c ∗ dutyTok ER (at_ (up dir c) (.cred dir q)) n false
        ∗ reached ER (at_ (up dir c) (.cred dir q)) n ∗ anyReg dir (sl n) q c ∗ reached ER (at_ c (.recv dir (sl n) q)) ((n + 1) / 2))
      ⊢ iprop((ow O c -∗ run c (f ⟨⟩) Q) -∗ run c (grant dir q c >>= f) Q) := by
  unfold dueCred grant
  iintro ⟨#Hctx, HO, Ht, Hr, Hreg, Hrr⟩ Hk
  iapply (signal_cell X W K c (.cred dir q) (up dir c) (credSem dir q) rfl n false (lvCred n q) f
    (by rw [dut_cred dir q hn]; exact Finset.mem_singleton_self _) rfl) $$ [HO Ht Hr Hreg Hrr]
  · isplitr; · iexact Hctx
    isplitl [HO]; · iexact HO
    isplitl [Ht]; · iexact Ht
    isplitl [Hreg Hrr]
    · simp only [pay, down_up]
      isplitl [Hreg] <;> iassumption
    iexact Hr
  iexact Hk

/-- The slot freed downstream arrives. -/
theorem await_rule {n : ℕ} (hn : n < 6) (hO : Above (lvCred n q) O) :
    iprop(ctx X W K ∗ ow O c ∗ cred (tallyAt (at_ c (.cred dir q)) (lvCred n q) 1) ∗ atPos ER (at_ c (.cred dir q)) n ∅ 0)
      ⊢ iprop(((ow O c ∗ atPos ER (at_ c (.cred dir q)) (n + 1) ∅ 0 ∗ reached ER (at_ c (.cred dir q)) (n + 1)
          ∗ anyReg dir (sl n) q (down dir c) ∗ reached ER (at_ (down dir c) (.recv dir (sl n) q)) ((n + 1) / 2)) -∗ run c (f ⟨⟩) Q)
        -∗ run c (await dir q >>= f) Q) := by
  have hr := rest_one X W c (.cred dir q) n (dut_cred dir q hn)
  simp only [pay] at hr
  simp only [await, semWaitWord, Prog.lift, Prog.bind_op, Prog.bind_ret, Prog.pure_eq_ret]
  iintro ⟨#Hctx, HO, Hc, Ha⟩ Hk
  iapply (wait_cell X W K c (.cred dir q) n (lvCred n q) _
    (wpE_semWait_eq 𝒱₀ (c : Thread nD τ) none Set.univ)
    (by rw [dut_cred dir q hn]; rfl) hO (by unfold lvCred; omega)) $$ [HO Hc Ha]
  · isplitr; · iexact Hctx
    isplitl [HO]; · iexact HO
    isplitl [Hc]; · iexact Hc
    iexact Ha
  iintro ⟨HO, Ha, Hr, Hp⟩
  ihave Hp := (Entails.of_eq hr) $$ Hp
  icases Hp with ⟨Hreg, Hrr⟩
  iapply Hk
  isplitl [HO]; · iexact HO
  isplitl [Ha]; · iexact Ha
  isplitl [Hr]; · iexact Hr
  isplitl [Hreg] <;> iassumption

/-- The transfer of hop `t`. -/
theorem xfer_rule {t : ℕ} (ht : t < 7) :
    iprop(ctx X W K ∗ ow (O + dueRecv dir q t c) c
        ∗ owns (c : Thread nD τ) (reg dir (sl t) q) fullShare (acc X W dir q t c)
        ∗ anyReg dir (sl (t + 1)) q (down dir c) ∗ reached ER (at_ c (.cred dir q)) t
        ∗ dutyTok ER (at_ c (.send dir (sl t) q)) (t / 2) false ∗ reached ER (at_ c (.send dir (sl t) q)) (t / 2)
        ∗ dutyTok ER (at_ (down dir c) (.recv dir (sl (t + 1)) q)) (t / 2) false
        ∗ reached ER (at_ (down dir c) (.recv dir (sl (t + 1)) q)) (t / 2))
      ⊢ iprop(((ow O c ∗ cred (tallyAt (at_ c (.send dir (sl t) q)) 0 N)) -∗ run c (f ⟨⟩) Q)
        -∗ run c (xfer dir q t c >>= f) Q) := by
  unfold dueRecv ow xfer anyReg
  simp only [Prog.bind_lift]
  unfold owns
  iintro ⟨#Hctx, ⟨%Ws, HO⟩, ⟨%fs, %hfs, Hs⟩, ⟨%v, %fd, %hfd, Hd⟩, Hcr, HtS, HrS, HtR, HrR⟩ Hk
  ihave #HiS := (ctx_inv X W K c (.send dir (sl t) q)) $$ Hctx
  ihave #HiR := (ctx_inv X W K (down dir c) (.recv dir (sl (t + 1)) q)) $$ Hctx
  iapply (Rounds.wp_send_pointsTo_with 𝒱₀ ER (Rd X W) (c : Thread nD τ) none (c' := (down dir c : Thread nD τ))
    (sS := spot (.send dir (sl t) q)) (sem := spot (.recv dir (sl (t + 1)) q))
    (src := reg dir (sl t) q) (dst := reg dir (sl (t + 1)) q) (fs := fs) (fd := fd) (q := fullShare)
    (F := reached ER (at_ c (.cred dir q)) t)
    (κ₁ := K (c, .send dir (sl t) q)) (κ₂ := K (down dir c, .recv dir (sl (t + 1)) q))
    (r₁ := t / 2) (r₂ := t / 2) (d₁ := false) (d₂ := false)
    (by rw [duties_at, dut_send dir q ht]; exact Finset.mem_singleton_self _)
    (by rw [duties_at, dut_recv dir q ht]; exact Finset.mem_singleton_self _)
    (lvRecv t q) 0 N (reg_credit dir (sl (t + 1)) q) (amount_at X W c _ _ _) (amount_at X W (down dir c) _ _ _)
    O rfl (W := Ws)
    (by
      rw [payload_at]; unfold pay anyReg owns
      iintro H
      iexists _, fs
      isplitr; · ipureintro; rfl
      iexact H)
    (by
      rw [payload_at]; simp only [pay, recv_trn, up_down]; unfold owns
      iintro ⟨H, Hr⟩
      isplitr [Hr]
      · iexists ((reg dir (sl (t + 1)) q).view.write (Elt F) fd ((reg dir (sl t) q).view.read (Elt F) fs) Finset.univ)
        isplitr; · ipureintro; exact (View.read_write_univ _ _).trans hfs
        iexact H
      iexact Hr)) $$ [HO Hs Hd Hcr HtS HrS HtR HrR]
  · isplitr; · iexact HiS
    isplitr; · iexact HiR
    isplitl [Hs]; · iexact Hs
    isplitl [Hd Hcr]
    · isplitl [Hd] <;> iassumption
    isplitl [HO]; · iexact HO
    isplitl [HtS]; · iexact HtS
    isplitl [HrS]; · iexact HrS
    isplitl [HtR] <;> iassumption
  iintro ⟨Hc, HO⟩
  iapply Hk
  isplitl [HO]; · iexists Ws; iexact HO
  iexact Hc

/-- The copy of a finished quarter to the result. -/
theorem emit_rule :
    iprop(ctx X W K ∗ owns (c : Thread nD τ) (reg dir 0 q) fullShare (res X W dir q c)
        ∗ (∃ v, owns (c : Thread nD τ) (outReg dir q) fullShare v) ∗ dutyTok ER (at_ c (.out dir q)) 0 false)
      ⊢ iprop((cred (tallyAt (at_ c (.out dir q)) 0 N) -∗ run c (f ⟨⟩) Q) -∗ run c (emit dir q >>= f) Q) := by
  unfold emit
  simp only [Prog.bind_lift]
  unfold owns
  iintro ⟨#Hctx, ⟨%fs, %hfs, Hs⟩, ⟨%v, %fd, %hfd, Hd⟩, Ht⟩ Hk
  ihave #Hi := (ctx_inv X W K c (.out dir q)) $$ Hctx
  ihave #Hr := (ctx_reached X W K c (.out dir q)) $$ Hctx
  iapply (Rounds.wp_copy_pointsTo 𝒱₀ ER (Rd X W) (c : Thread nD τ) none (sem := spot (.out dir q))
    (src := reg dir 0 q) (dst := outReg dir q) (fs := fs) (fd := fd) (q := fullShare)
    (κ := K (c, .out dir q)) (r := 0) (d := false)
    (by rw [duties_at]; exact Finset.mem_singleton_self _)
    0 N (out_credit dir q) (amount_at X W c _ _ _)
    (by
      rw [payload_at]; unfold pay anyReg owns
      iintro ⟨Hd, Hs⟩
      isplitl [Hd]
      · iexists ((outReg dir q).view.write (Elt F) fd ((reg dir 0 q).view.read (Elt F) fs) Finset.univ)
        isplitr; · ipureintro; exact (View.read_write_univ _ _).trans hfs
        iexact Hd
      iexists _, fs
      isplitr; · ipureintro; rfl
      iexact Hs)) $$ [Hs Hd Ht]
  · isplitr; · iexact Hi
    isplitl [Hs]; · iexact Hs
    isplitl [Hd]; · iexact Hd
    isplitl [Ht]; · iexact Ht
    iexact Hr
  iexact Hk

/-- The copy has been made. -/
theorem emitted_rule (hO : Above 0 O) :
    iprop(ctx X W K ∗ ow O c ∗ cred (tallyAt (at_ c (.out dir q)) 0 N) ∗ atPos ER (at_ c (.out dir q)) 0 ∅ 0)
      ⊢ iprop(((ow O c ∗ atPos ER (at_ c (.out dir q)) 1 ∅ 0
          ∗ owns (c : Thread nD τ) (outReg dir q) fullShare (res X W dir q c) ∗ anyReg dir 0 q c) -∗ run c (f ⟨⟩) Q)
        -∗ run c (emitted dir q >>= f) Q) := by
  have hr := rest_one X W c (.out dir q) 0 rfl
  simp only [pay] at hr
  simp only [emitted, Prog.bind_lift]
  iintro ⟨#Hctx, HO, Hc, Ha⟩ Hk
  iapply (wait_cell X W K c (.out dir q) 0 0 _
    (fun R => (wpE_waitDma2_eq 𝒱₀ (c : Thread nD τ) none Set.univ R).trans (by rw [out_credit]; rfl))
    (Nat.one_mul _) hO (by decide)) $$ [HO Hc Ha]
  · isplitr; · iexact Hctx
    isplitl [HO]; · iexact HO
    isplitl [Hc]; · iexact Hc
    iexact Ha
  iintro ⟨HO, Ha, -, Hp⟩
  ihave Hp := (Entails.of_eq hr) $$ Hp
  icases Hp with ⟨Hout, Hreg⟩
  iapply Hk
  isplitl [HO]; · iexact HO
  isplitl [Ha]; · iexact Ha
  isplitl [Hout] <;> iassumption

end Pieces

/-- A barrier with both neighbours at cell `k`. -/
theorem meet_rule (k : Cell) (s : Sem sig) (hs : spot k = .reg s) (hd : dut k 0 = Finset.univ) (ha : amt k = 1)
    (i : ℕ) {O : Tally} (hO : Above i O) (hi : i < 41) (f : PUnit → P F) :
    iprop(ctx X W K ∗ ow ((O + tallyAt (at_ (up true c) k) i 1) + tallyAt (at_ (up false c) k) i 1) c
        ∗ dutyTok ER (at_ (up false c) k) 0 false ∗ pay X W (up false c) k 0 false
        ∗ dutyTok ER (at_ (up true c) k) 0 true ∗ pay X W (up true c) k 0 true
        ∗ cred (tallyAt (at_ c k) i 2) ∗ atPos ER (at_ c k) 0 ∅ 0)
      ⊢ iprop(((ow O c ∗ atPos ER (at_ c k) 1 ∅ 0 ∗ pay X W c k 0 false ∗ pay X W c k 0 true) -∗ run c (f ⟨⟩) Q)
        -∗ run c (meet s c >>= f) Q) := by
  simp only [meet, bind_assoc]
  iintro ⟨#Hctx, HO, Ht0, Hp0, Ht1, Hp1, Hc, Ha⟩ Hk
  iapply (signal_cell X W K c k (up false c) s hs 0 false i _ (by rw [hd]; exact Finset.mem_univ _) ha) $$ [HO Ht0 Hp0]
  · isplitr; · iexact Hctx
    isplitl [HO]; · iexact HO
    isplitl [Ht0]; · iexact Ht0
    isplitl [Hp0]; · iexact Hp0
    iapply (ctx_reached X W K (up false c) k); iexact Hctx
  iintro HO
  iapply (signal_cell X W K c k (up true c) s hs 0 true i _ (by rw [hd]; exact Finset.mem_univ _) ha) $$ [HO Ht1 Hp1]
  · isplitr; · iexact Hctx
    isplitl [HO]; · iexact HO
    isplitl [Ht1]; · iexact Ht1
    isplitl [Hp1]; · iexact Hp1
    iapply (ctx_reached X W K (up true c) k); iexact Hctx
  iintro HO
  simp only [semWaitWord, Prog.lift, Prog.bind_op, Prog.bind_ret, Prog.pure_eq_ret]
  iapply (wait_cell X W K c k 0 i _
    (fun R => (wpE_semWait_eq 𝒱₀ (c : Thread nD τ) none Set.univ R).trans (by rw [hs]))
    (by rw [hd, ha]; rfl) hO hi) $$ [HO Hc Ha]
  · isplitr; · iexact Hctx
    isplitl [HO]; · iexact HO
    isplitl [Hc]; · iexact Hc
    iexact Ha
  iintro ⟨HO, Ha, -, Hp⟩
  ihave Hp := (Entails.of_eq (rest_two X W c k 0 hd)) $$ Hp
  icases Hp with ⟨H0, H1⟩
  iapply Hk
  isplitl [HO]; · iexact HO
  isplitl [Ha]; · iexact Ha
  isplitl [H0] <;> iassumption

end Cert.KernelIdeal.Hop

end
-- ==== Proof.Body.lean ====
module

public import proofs.«01_k».proof.Proof.Lanes
public import Idealize.SL.BI.BigOpNat

/-!
# The body from its start to its end

A hop takes the state of a quarter from one transfer in flight to the next; the
body is the first barrier, the first transfers, six hops, the last sums and
copies, and the last barrier.
-/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → (cc0_stg0_0 : Ref sig .tc).ty.Contents (Elt F))
  (W : Dev nD → (cc0_stg1_0 : Ref sig .tc).ty.Contents (Elt F))

section States
variable (dir : Bool) (q : Fin 2) (n : ℕ) (c : Dev nD)

/-- The tokens of transfer `t`: its departure and its arrival. -/
def toks : sProp (MM F) :=
  iprop(dutyTok ER (at_ c (.send dir (sl n) q)) (n / 2) false
    ∗ dutyTok ER (at_ (down dir c) (.recv dir (sl (n + 1)) q)) (n / 2) false)

/-- The credit for the arrival of transfer `t`. -/
def arrival : sProp (MM F) := cred (tallyAt (at_ c (.recv dir (sl (n + 1)) q)) (lvRecv n q) N)

/-- The token and the credit of the permissions after transfer `n`. -/
def permit : sProp (MM F) :=
  iprop(dutyTok ER (at_ (up dir c) (.cred dir q)) n false ∗ cred (tallyAt (at_ c (.cred dir q)) (lvCred n q) 1))

/-- What hop `n + 1` of a direction uses up. -/
def fuel : sProp (MM F) := iprop(toks dir q (n + 1) c ∗ arrival dir q (n + 1) c ∗ permit dir q n c)

/-- The state with transfer `n` in flight. -/
def chain : sProp (MM F) :=
  iprop(atPos ER (at_ c (.send dir (sl n) q)) (n / 2) ∅ 0
    ∗ atPos ER (at_ c (.send dir (sl (n + 1)) q)) ((n + 1) / 2) ∅ 0
    ∗ reached ER (at_ c (.send dir (sl (n + 1)) q)) ((n + 1) / 2)
    ∗ atPos ER (at_ c (.recv dir (sl (n + 1)) q)) (n / 2) ∅ 0
    ∗ atPos ER (at_ c (.recv dir (sl n) q)) ((n + 1) / 2) ∅ 0
    ∗ reached ER (at_ c (.recv dir (sl n) q)) ((n + 1) / 2)
    ∗ atPos ER (at_ c (.cred dir q)) n ∅ 0
    ∗ cred (tallyAt (at_ c (.send dir (sl n) q)) 0 N)
    ∗ arrival dir q n c
    ∗ bigSep (Finset.Ico n 6) fun m => fuel dir q m c)

end States

variable (K : Dev nD × Cell → ℕ) (c : Dev nD) {Q : PUnit → sProp (MM F)}

/-- Hop `n + 1` of a quarter, both directions. -/
theorem hop_rule (q : Fin 2) {n : ℕ} (hn : n < 6) {O : Tally} (hO : Above (lvCred n q) O) (f : PUnit → P F) :
    iprop(ctx X W K ∗ ops X W c ∗ ow (pend O q n c) c ∗ chain false q n c ∗ chain true q n c)
      ⊢ iprop(((ops X W c ∗ ow O c ∗ chain false q (n + 1) c ∗ chain true q (n + 1) c) -∗ run c (f ⟨⟩) Q)
        -∗ run c (hop q n c >>= f) Q) := by
  have hlt : lvRecv n q < lvCred n q := by unfold lvRecv lvCred; omega
  have h1 : Above (lvCred n q) (O + dueRecv true q (n + 1) c) :=
    hO.add (.recv _ _ _ c (by unfold lvRecv lvCred; omega) (by omega))
  have h2 : Above (lvCred n q) ((O + dueRecv true q (n + 1) c) + dueRecv false q (n + 1) c) :=
    h1.add (.recv _ _ _ c (by unfold lvRecv lvCred; omega) (by omega))
  have h3 : Above (lvRecv n q) (pend O q n c) := (hO.mono hlt.le).pend c hlt hn
  simp only [hop, bind_assoc]
  unfold chain
  rw [bigSep_Ico_succ_bot hn, bigSep_Ico_succ_bot hn]
  unfold fuel toks arrival permit
  iintro ⟨#Hctx, Hops, HO, ⟨HaS, HaS', HrS', HaR, HaR', HrR', HaC, HcS, HcR, ⟨⟨HtS, HtR⟩, HcR', HtC, HcC⟩, Hfuel⟩,
    ⟨JaS, JaS', JrS', JaR, JaR', JrR', JaC, JcS, JcR, ⟨⟨JtS, JtR⟩, JcR', JtC, JcC⟩, Jfuel⟩⟩ Hk
  -- the waits of transfer `n`
  iapply (settle_rule X W K c false q _ (n := n) (by omega) h3) $$ [HO HcS HaS HcR HaR]
  · isplitr; · iexact Hctx
    isplitl [HO]; · iexact HO
    isplitl [HcS]; · iexact HcS
    isplitl [HaS]; · iexact HaS
    isplitl [HcR] <;> iassumption
  iintro ⟨HO, HaS, HrS, HaR, HrR, Hfree, Hacc, Hup⟩
  iapply (settle_rule X W K c true q _ (n := n) (by omega) h3) $$ [HO JcS JaS JcR JaR]
  · isplitr; · iexact Hctx
    isplitl [HO]; · iexact HO
    isplitl [JcS]; · iexact JcS
    isplitl [JaS]; · iexact JaS
    isplitl [JcR] <;> iassumption
  iintro ⟨HO, JaS, JrS, JaR, JrR, Jfree, Jacc, Jup⟩
  -- the freed slots go upstream
  unfold pend
  icases HrR' with #HrR'
  icases JrR' with #JrR'
  iapply (grant_rule X W K c false q _ hn) $$ [HO HtC Hup Hfree]
  · isplitr; · iexact Hctx
    isplitl [HO]; · iexact HO
    isplitl [HtC]; · iexact HtC
    isplitl [Hup]; · iexact Hup
    isplitl [Hfree]; · iexact Hfree
    iexact HrR'
  iintro HO
  iapply (grant_rule X W K c true q _ hn) $$ [HO JtC Jup Jfree]
  · isplitr; · iexact Hctx
    isplitl [HO]; · iexact HO
    isplitl [JtC]; · iexact JtC
    isplitl [Jup]; · iexact Jup
    isplitl [Jfree]; · iexact Jfree
    iexact JrR'
  iintro HO
  -- the products are added
  iapply (accum_rule X W c false (sl (n + 1)) q) $$ [Hops Hacc]
  · isplitl [Hops] <;> iassumption
  iintro ⟨Hops, Hacc⟩
  iapply (accum_rule X W c true (sl (n + 1)) q) $$ [Hops Jacc]
  · isplitl [Hops] <;> iassumption
  iintro ⟨Hops, Jacc⟩
  -- the slots downstream arrive
  iapply (await_rule X W K c false q _ hn h2) $$ [HO HcC HaC]
  · isplitr; · iexact Hctx
    isplitl [HO]; · iexact HO
    isplitl [HcC] <;> iassumption
  iintro ⟨HO, HaC, HrC, Hdown, HrD⟩
  iapply (await_rule X W K c true q _ hn h2) $$ [HO JcC JaC]
  · isplitr; · iexact Hctx
    isplitl [HO]; · iexact HO
    isplitl [JcC] <;> iassumption
  iintro ⟨HO, JaC, JrC, Jdown, JrD⟩
  -- the transfers
  have e := sl_two n
  iapply (xfer_rule X W K c false q _ (t := n + 1) (by omega)) $$ [HO Hacc Hdown HrC HtS HrS' HtR HrD]
  · rw [e]
    isplitr; · iexact Hctx
    isplitl [HO]; · iexact HO
    isplitl [Hacc]; · iexact Hacc
    isplitl [Hdown]; · iexact Hdown
    isplitl [HrC]; · iexact HrC
    isplitl [HtS]; · iexact HtS
    isplitl [HrS']; · iexact HrS'
    isplitl [HtR] <;> iassumption
  iintro ⟨HO, HcS⟩
  iapply (xfer_rule X W K c true q _ (t := n + 1) (by omega)) $$ [HO Jacc Jdown JrC JtS JrS' JtR JrD]
  · rw [e]
    isplitr; · iexact Hctx
    isplitl [HO]; · iexact HO
    isplitl [Jacc]; · iexact Jacc
    isplitl [Jdown]; · iexact Jdown
    isplitl [JrC]; · iexact JrC
    isplitl [JtS]; · iexact JtS
    isplitl [JrS']; · iexact JrS'
    isplitl [JtR] <;> iassumption
  iintro ⟨HO, JcS⟩
  iapply Hk
  rw [e, half_two]
  isplitl [Hops]; · iexact Hops
  isplitl [HO]; · iexact HO
  isplitl [HaS HaS' HrS HaR HaR' HrR HaC HcS HcR' Hfuel]
  · isplitl [HaS']; · iexact HaS'
    isplitl [HaS]; · iexact HaS
    isplitl [HrS]; · iexact HrS
    isplitl [HaR']; · iexact HaR'
    isplitl [HaR]; · iexact HaR
    isplitl [HrR]; · iexact HrR
    isplitl [HaC]; · iexact HaC
    isplitl [HcS]; · iexact HcS
    isplitl [HcR'] <;> iassumption
  · isplitl [JaS']; · iexact JaS'
    isplitl [JaS]; · iexact JaS
    isplitl [JrS]; · iexact JrS
    isplitl [JaR']; · iexact JaR'
    isplitl [JaR]; · iexact JaR
    isplitl [JrR]; · iexact JrR
    isplitl [JaC]; · iexact JaC
    isplitl [JcS]; · iexact JcS
    isplitl [JcR'] <;> iassumption

/-- The hops after hop `n`, to the last. -/
theorem hops_rule : ∀ (k n : ℕ), n + k = 6 → ∀ f : PUnit → P F,
    iprop(ctx X W K ∗ ops X W c ∗ ow (due k n c) c
        ∗ chain false 0 n c ∗ chain true 0 n c ∗ chain false 1 n c ∗ chain true 1 n c)
      ⊢ iprop(((ops X W c ∗ ow (dueEnd c) c
          ∗ chain false 0 6 c ∗ chain true 0 6 c ∗ chain false 1 6 c ∗ chain true 1 6 c) -∗ run c (f ⟨⟩) Q)
        -∗ run c (hops k n c >>= f) Q)
  | 0, n, h, f => by
    obtain rfl : n = 6 := h
    simp only [hops, pure_bind]
    unfold due
    iintro ⟨-, H⟩ Hk
    iapply Hk
    iexact H
  | k + 1, n, h, f => by
    have hd : Above (lvCred n 1) (due k (n + 1) c) := (Above.due c k (n + 1) (by omega)).mono (by unfold lvCred; simp; omega)
    have hd' : Above (lvCred n 0) (pend (due k (n + 1) c) 1 n c) :=
      (hd.mono (by unfold lvCred; simp)).pend c (by unfold lvCred; simp) (by omega)
    simp only [hops, bind_assoc]
    unfold due
    iintro ⟨#Hctx, Hops, HO, H00, H10, H01, H11⟩ Hk
    iapply (hop_rule X W K c 0 (n := n) (by omega) hd') $$ [Hops HO H00 H10]
    · isplitr; · iexact Hctx
      isplitl [Hops]; · iexact Hops
      isplitl [HO]; · iexact HO
      isplitl [H00] <;> iassumption
    iintro ⟨Hops, HO, H00, H10⟩
    iapply (hop_rule X W K c 1 (n := n) (by omega) hd) $$ [Hops HO H01 H11]
    · isplitr; · iexact Hctx
      isplitl [Hops]; · iexact Hops
      isplitl [HO]; · iexact HO
      isplitl [H01] <;> iassumption
    iintro ⟨Hops, HO, H01, H11⟩
    iapply (hops_rule k (n + 1) (by omega) f) $$ [Hops HO H00 H10 H01 H11]
    · isplitr; · iexact Hctx
      isplitl [Hops]; · iexact Hops
      isplitl [HO]; · iexact HO
      isplitl [H00]; · iexact H00
      isplitl [H10]; · iexact H10
      isplitl [H01] <;> iassumption
    iexact Hk

/-- What the first transfer of a direction needs. -/
def ready (dir : Bool) (q : Fin 2) : sProp (MM F) :=
  iprop(anyReg dir 0 q c ∗ anyReg dir 1 q (down dir c) ∗ toks dir q 0 c)

/-- Both directions' first product and transfer. -/
theorem start_rule (q : Fin 2) {O : Tally} (f : PUnit → P F) :
    iprop(ctx X W K ∗ ops X W c ∗ ow ((O + dueRecv true q 0 c) + dueRecv false q 0 c) c ∗ ready c false q ∗ ready c true q)
      ⊢ iprop(((ops X W c ∗ ow O c ∗ cred (tallyAt (at_ c (.send false 0 q)) 0 N) ∗ cred (tallyAt (at_ c (.send true 0 q)) 0 N))
          -∗ run c (f ⟨⟩) Q)
        -∗ run c (start q c >>= f) Q) := by
  simp only [start, bind_assoc]
  unfold ready toks
  iintro ⟨#Hctx, Hops, HO, ⟨H0, H1, HtS, HtR⟩, J0, J1, JtS, JtR⟩ Hk
  iapply (first_rule X W c false q) $$ [Hops H0]
  · isplitl [Hops] <;> iassumption
  iintro ⟨Hops, H0⟩
  iapply (first_rule X W c true q) $$ [Hops J0]
  · isplitl [Hops] <;> iassumption
  iintro ⟨Hops, J0⟩
  iapply (xfer_rule X W K c false q _ (t := 0) (by decide)) $$ [HO H0 H1 HtS HtR]
  · isplitr; · iexact Hctx
    isplitl [HO]; · iexact HO
    isplitl [H0]; · iexact H0
    isplitl [H1]; · iexact H1
    isplitr; · iapply (ctx_reached X W K c (.cred false q)); iexact Hctx
    isplitl [HtS]; · iexact HtS
    isplitr; · iapply (ctx_reached X W K c (.send false (sl 0) q)); iexact Hctx
    isplitl [HtR]; · iexact HtR
    iapply (ctx_reached X W K (down false c) (.recv false (sl (0 + 1)) q)); iexact Hctx
  iintro ⟨HO, HcS⟩
  iapply (xfer_rule X W K c true q _ (t := 0) (by decide)) $$ [HO J0 J1 JtS JtR]
  · isplitr; · iexact Hctx
    isplitl [HO]; · iexact HO
    isplitl [J0]; · iexact J0
    isplitl [J1]; · iexact J1
    isplitr; · iapply (ctx_reached X W K c (.cred true q)); iexact Hctx
    isplitl [JtS]; · iexact JtS
    isplitr; · iapply (ctx_reached X W K c (.send true (sl 0) q)); iexact Hctx
    isplitl [JtR]; · iexact JtR
    iapply (ctx_reached X W K (down true c) (.recv true (sl (0 + 1)) q)); iexact Hctx
  iintro ⟨HO, JcS⟩
  iapply Hk
  isplitl [Hops]; · iexact Hops
  isplitl [HO]; · iexact HO
  isplitl [HcS]; · iexact HcS
  iexact JcS

/-- A quarter of the result, whatever it holds, and the token of the copy into it. -/
def drain (dir : Bool) (q : Fin 2) : sProp (MM F) :=
  iprop((∃ v, owns (c : Thread nD τ) (outReg dir q) fullShare v) ∗ dutyTok ER (at_ c (.out dir q)) 0 false)

/-- The positions of a direction's quarter at the end of the ring, and slot 1. -/
def arrived (dir : Bool) (q : Fin 2) : sProp (MM F) :=
  iprop(atPos ER (at_ c (.cred dir q)) 6 ∅ 0
    ∗ atPos ER (at_ c (.send dir 0 q)) 4 ∅ 0 ∗ atPos ER (at_ c (.send dir 1 q)) 3 ∅ 0
    ∗ atPos ER (at_ c (.recv dir 0 q)) 3 ∅ 0 ∗ atPos ER (at_ c (.recv dir 1 q)) 4 ∅ 0
    ∗ anyReg dir 1 q c)

/-- The last sums of a quarter and the copies of them. -/
theorem last_rule (q : Fin 2) {O : Tally} (hO : Above (lvRecv 6 q) O) (f : PUnit → P F) :
    iprop(ctx X W K ∗ ops X W c ∗ ow O c ∗ chain false q 6 c ∗ chain true q 6 c ∗ drain c false q ∗ drain c true q)
      ⊢ iprop(((ops X W c ∗ ow O c ∗ arrived c false q ∗ arrived c true q
            ∗ cred (tallyAt (at_ c (.out false q)) 0 N) ∗ cred (tallyAt (at_ c (.out true q)) 0 N)) -∗ run c (f ⟨⟩) Q)
        -∗ run c (last q c >>= f) Q) := by
  simp only [last, bind_assoc]
  unfold chain drain arrival arrived
  iintro ⟨#Hctx, Hops, HO, ⟨HaS, HaS', -, HaR, HaR', -, HaC, HcS, HcR, -⟩,
    ⟨JaS, JaS', -, JaR, JaR', -, JaC, JcS, JcR, -⟩, ⟨Ho, Ht⟩, Jo, Jt⟩ Hk
  iapply (settle_rule X W K c false q _ (n := 6) (by decide) hO) $$ [HO HcS HaS HcR HaR]
  · isplitr; · iexact Hctx
    isplitl [HO]; · iexact HO
    isplitl [HcS]; · iexact HcS
    isplitl [HaS]; · iexact HaS
    isplitl [HcR] <;> iassumption
  iintro ⟨HO, HaS, -, HaR, -, Hfree, Hacc, -⟩
  iapply (settle_rule X W K c true q _ (n := 6) (by decide) hO) $$ [HO JcS JaS JcR JaR]
  · isplitr; · iexact Hctx
    isplitl [HO]; · iexact HO
    isplitl [JcS]; · iexact JcS
    isplitl [JaS]; · iexact JaS
    isplitl [JcR] <;> iassumption
  iintro ⟨HO, JaS, -, JaR, -, Jfree, Jacc, -⟩
  iapply (accum_rule' X W c false 1 0 q) $$ [Hops Hacc Hfree]
  · isplitl [Hops]; · iexact Hops
    isplitl [Hacc]; · iexact Hacc
    iexact Hfree
  iintro ⟨Hops, Hslot, Hacc⟩
  iapply (accum_rule' X W c true 1 0 q) $$ [Hops Jacc Jfree]
  · isplitl [Hops]; · iexact Hops
    isplitl [Jacc]; · iexact Jacc
    iexact Jfree
  iintro ⟨Hops, Jslot, Jacc⟩
  iapply (emit_rule X W K c false q) $$ [Hacc Ho Ht]
  · isplitr; · iexact Hctx
    isplitl [Hacc]; · iexact Hacc
    isplitl [Ho] <;> iassumption
  iintro Hc
  iapply (emit_rule X W K c true q) $$ [Jacc Jo Jt]
  · isplitr; · iexact Hctx
    isplitl [Jacc]; · iexact Jacc
    isplitl [Jo] <;> iassumption
  iintro Jc
  iapply Hk
  isplitl [Hops]; · iexact Hops
  isplitl [HO]; · iexact HO
  isplitl [HaS HaS' HaR HaR' HaC Hslot]
  · isplitl [HaC]; · iexact HaC
    isplitl [HaS]; · iexact HaS
    isplitl [HaS']; · iexact HaS'
    isplitl [HaR']; · iexact HaR'
    isplitl [HaR]; · iexact HaR
    unfold anyReg; iexists _; iexact Hslot
  isplitl [JaS JaS' JaR JaR' JaC Jslot]
  · isplitl [JaC]; · iexact JaC
    isplitl [JaS]; · iexact JaS
    isplitl [JaS']; · iexact JaS'
    isplitl [JaR']; · iexact JaR'
    isplitl [JaR]; · iexact JaR
    unfold anyReg; iexists _; iexact Jslot
  isplitl [Hc] <;> iassumption

/-! ## The whole body -/

/-- What a direction's quarter starts from. -/
def laneIn (dir : Bool) (q : Fin 2) : sProp (MM F) :=
  iprop((atPos ER (at_ c (.cred dir q)) 0 ∅ 0
      ∗ atPos ER (at_ c (.send dir 0 q)) 0 ∅ 0 ∗ atPos ER (at_ c (.send dir 1 q)) 0 ∅ 0
      ∗ atPos ER (at_ c (.recv dir 0 q)) 0 ∅ 0 ∗ atPos ER (at_ c (.recv dir 1 q)) 0 ∅ 0
      ∗ atPos ER (at_ c (.out dir q)) 0 ∅ 0)
    ∗ (toks dir q 0 c ∗ arrival dir q 0 c ∗ bigSep (Finset.Ico 0 6) fun m => fuel dir q m c)
    ∗ (anyReg dir 0 q c ∗ anyReg dir 1 q c) ∗ drain c dir q)

/-- What it ends with. -/
def laneOut (dir : Bool) (q : Fin 2) : sProp (MM F) :=
  iprop((atPos ER (at_ c (.cred dir q)) 6 ∅ 0
      ∗ atPos ER (at_ c (.send dir 0 q)) 4 ∅ 0 ∗ atPos ER (at_ c (.send dir 1 q)) 3 ∅ 0
      ∗ atPos ER (at_ c (.recv dir 0 q)) 3 ∅ 0 ∗ atPos ER (at_ c (.recv dir 1 q)) 4 ∅ 0
      ∗ atPos ER (at_ c (.out dir q)) 1 ∅ 0)
    ∗ (anyReg dir 0 q c ∗ anyReg dir 1 q c)
    ∗ owns (c : Thread nD τ) (outReg dir q) fullShare (res X W dir q c))

/-- What a barrier cell is met with. -/
def gate (k : Cell) (i : ℕ) : sProp (MM F) :=
  iprop(atPos ER (at_ c k) 0 ∅ 0 ∗ dutyTok ER (at_ (up false c) k) 0 false ∗ dutyTok ER (at_ (up true c) k) 0 true
    ∗ cred (tallyAt (at_ c k) i 2))

/-- The first transfer of a direction in flight. -/
theorem chain_zero (dir : Bool) (q : Fin 2) :
    iprop(ctx X W K ∗ (atPos ER (at_ c (.cred dir q)) 0 ∅ 0
      ∗ atPos ER (at_ c (.send dir 0 q)) 0 ∅ 0 ∗ atPos ER (at_ c (.send dir 1 q)) 0 ∅ 0
      ∗ atPos ER (at_ c (.recv dir 0 q)) 0 ∅ 0 ∗ atPos ER (at_ c (.recv dir 1 q)) 0 ∅ 0)
      ∗ arrival dir q 0 c ∗ (bigSep (Finset.Ico 0 6) fun m => fuel dir q m c)
      ∗ cred (tallyAt (at_ c (.send dir 0 q)) 0 N)) ⊢ chain dir q 0 c := by
  unfold chain
  iintro ⟨#Hctx, ⟨HaC, HaS, HaS', HaR, HaR'⟩, HcR, Hf, HcS⟩
  isplitl [HaS]; · iexact HaS
  isplitl [HaS']; · iexact HaS'
  isplitr; · iapply (ctx_reached X W K c (.send dir 1 q)); iexact Hctx
  isplitl [HaR']; · iexact HaR'
  isplitl [HaR]; · iexact HaR
  isplitr; · iapply (ctx_reached X W K c (.recv dir 0 q)); iexact Hctx
  isplitl [HaC]; · iexact HaC
  isplitl [HcS]; · iexact HcS
  isplitl [HcR] <;> iassumption

set_option maxHeartbeats 800000 in
/-- The body. -/
theorem body_rule :
    iprop(ctx X W K ∗ ops X W c ∗ ow (dueAll c) c ∗ gate c .bar 1 ∗ gate c .fin 40
        ∗ laneIn c false 0 ∗ laneIn c true 0 ∗ laneIn c false 1 ∗ laneIn c true 1)
      ⊢ iprop(((ops X W c ∗ ow 0 c ∗ atPos ER (at_ c .bar) 1 ∅ 0 ∗ atPos ER (at_ c .fin) 1 ∅ 0
          ∗ laneOut X W c false 0 ∗ laneOut X W c true 0 ∗ laneOut X W c false 1 ∗ laneOut X W c true 1) -∗ Q ⟨⟩)
        -∗ run c (body c) Q) := by
  have hb : body (F := F) c = (meet barSem c >>= fun _ => start 0 c >>= fun _ => start 1 c >>= fun _ => hops 6 0 c >>= fun _ =>
      last 0 c >>= fun _ => last 1 c >>= fun _ => emitted false 0 >>= fun _ => emitted true 0 >>= fun _ =>
      emitted false 1 >>= fun _ => emitted true 1 >>= fun _ => meet endSem c >>= fun _ => pure ⟨⟩) := by
    unfold body
    simp only [bind_pure_unit]
  rw [hb]
  unfold gate laneIn dueAll dueStart dueBar
  iintro ⟨#Hctx, Hops, HO, ⟨HaB, HtB, JtB, HcB⟩, ⟨HaE, HtE, JtE, HcE⟩,
    ⟨⟨aC0, aS0, aT0, aR0, aU0, aO0⟩, ⟨tk0, ar0, fu0⟩, ⟨r0, r0'⟩, dr0⟩,
    ⟨⟨aC1, aS1, aT1, aR1, aU1, aO1⟩, ⟨tk1, ar1, fu1⟩, ⟨r1, r1'⟩, dr1⟩,
    ⟨⟨aC2, aS2, aT2, aR2, aU2, aO2⟩, ⟨tk2, ar2, fu2⟩, ⟨r2, r2'⟩, dr2⟩,
    ⟨⟨aC3, aS3, aT3, aR3, aU3, aO3⟩, ⟨tk3, ar3, fu3⟩, ⟨r3, r3'⟩, dr3⟩⟩ Hk
  -- the first barrier
  iapply (meet_rule X W K c .bar barSem rfl rfl rfl 1 (Above.start (by decide) c) (by decide))
    $$ [HO HtB JtB HaB HcB r0' r1' r2' r3']
  · isplitr; · iexact Hctx
    isplitl [HO]; · iexact HO
    isplitl [HtB]; · iexact HtB
    isplitl [r0' r2']
    · simp only [pay, down_up]
      isplitl [r0'] <;> iassumption
    isplitl [JtB]; · iexact JtB
    isplitl [r1' r3']
    · simp only [pay, down_up]
      isplitl [r1'] <;> iassumption
    isplitl [HcB] <;> iassumption
  simp only [pay]
  iintro ⟨HO, HaB, ⟨r0', r2'⟩, r1', r3'⟩
  -- the first transfers
  iapply (start_rule X W K c 0) $$ [Hops HO r0 r0' tk0 r1 r1' tk1]
  · unfold ready
    isplitr; · iexact Hctx
    isplitl [Hops]; · iexact Hops
    isplitl [HO]; · iexact HO
    isplitl [r0 r0' tk0]
    · isplitl [r0]; · iexact r0
      isplitl [r0'] <;> iassumption
    · isplitl [r1]; · iexact r1
      isplitl [r1'] <;> iassumption
  iintro ⟨Hops, HO, c0, c1⟩
  iapply (start_rule X W K c 1) $$ [Hops HO r2 r2' tk2 r3 r3' tk3]
  · unfold ready
    isplitr; · iexact Hctx
    isplitl [Hops]; · iexact Hops
    isplitl [HO]; · iexact HO
    isplitl [r2 r2' tk2]
    · isplitl [r2]; · iexact r2
      isplitl [r2'] <;> iassumption
    · isplitl [r3]; · iexact r3
      isplitl [r3'] <;> iassumption
  iintro ⟨Hops, HO, c2, c3⟩
  -- the hops
  iapply (hops_rule X W K c 6 0 rfl) $$ [Hops HO aC0 aS0 aT0 aR0 aU0 ar0 fu0 c0 aC1 aS1 aT1 aR1 aU1 ar1 fu1 c1
      aC2 aS2 aT2 aR2 aU2 ar2 fu2 c2 aC3 aS3 aT3 aR3 aU3 ar3 fu3 c3]
  · isplitr; · iexact Hctx
    isplitl [Hops]; · iexact Hops
    isplitl [HO]; · iexact HO
    isplitl [aC0 aS0 aT0 aR0 aU0 ar0 fu0 c0]
    · iapply (chain_zero X W K c false 0)
      isplitr; · iexact Hctx
      isplitl [aC0 aS0 aT0 aR0 aU0]
      · isplitl [aC0]; · iexact aC0
        isplitl [aS0]; · iexact aS0
        isplitl [aT0]; · iexact aT0
        isplitl [aR0] <;> iassumption
      isplitl [ar0]; · iexact ar0
      isplitl [fu0] <;> iassumption
    isplitl [aC1 aS1 aT1 aR1 aU1 ar1 fu1 c1]
    · iapply (chain_zero X W K c true 0)
      isplitr; · iexact Hctx
      isplitl [aC1 aS1 aT1 aR1 aU1]
      · isplitl [aC1]; · iexact aC1
        isplitl [aS1]; · iexact aS1
        isplitl [aT1]; · iexact aT1
        isplitl [aR1] <;> iassumption
      isplitl [ar1]; · iexact ar1
      isplitl [fu1] <;> iassumption
    isplitl [aC2 aS2 aT2 aR2 aU2 ar2 fu2 c2]
    · iapply (chain_zero X W K c false 1)
      isplitr; · iexact Hctx
      isplitl [aC2 aS2 aT2 aR2 aU2]
      · isplitl [aC2]; · iexact aC2
        isplitl [aS2]; · iexact aS2
        isplitl [aT2]; · iexact aT2
        isplitl [aR2] <;> iassumption
      isplitl [ar2]; · iexact ar2
      isplitl [fu2] <;> iassumption
    · iapply (chain_zero X W K c true 1)
      isplitr; · iexact Hctx
      isplitl [aC3 aS3 aT3 aR3 aU3]
      · isplitl [aC3]; · iexact aC3
        isplitl [aS3]; · iexact aS3
        isplitl [aT3]; · iexact aT3
        isplitl [aR3] <;> iassumption
      isplitl [ar3]; · iexact ar3
      isplitl [fu3] <;> iassumption
  iintro ⟨Hops, HO, h0, h1, h2, h3⟩
  -- the last sums
  iapply (last_rule X W K c 0 (Above.fin (by decide) c)) $$ [Hops HO h0 h1 dr0 dr1]
  · isplitr; · iexact Hctx
    isplitl [Hops]; · iexact Hops
    isplitl [HO]; · iexact HO
    isplitl [h0]; · iexact h0
    isplitl [h1]; · iexact h1
    isplitl [dr0] <;> iassumption
  iintro ⟨Hops, HO, h0, h1, c0, c1⟩
  iapply (last_rule X W K c 1 (Above.fin (by decide) c)) $$ [Hops HO h2 h3 dr2 dr3]
  · isplitr; · iexact Hctx
    isplitl [Hops]; · iexact Hops
    isplitl [HO]; · iexact HO
    isplitl [h2]; · iexact h2
    isplitl [h3]; · iexact h3
    isplitl [dr2] <;> iassumption
  iintro ⟨Hops, HO, h2, h3, c2, c3⟩
  -- the copies to the result
  iapply (emitted_rule X W K c false 0 _ (Above.fin (by decide) c)) $$ [HO c0 aO0]
  · isplitr; · iexact Hctx
    isplitl [HO]; · iexact HO
    isplitl [c0] <;> iassumption
  iintro ⟨HO, aO0, o0, r0⟩
  iapply (emitted_rule X W K c true 0 _ (Above.fin (by decide) c)) $$ [HO c1 aO1]
  · isplitr; · iexact Hctx
    isplitl [HO]; · iexact HO
    isplitl [c1] <;> iassumption
  iintro ⟨HO, aO1, o1, r1⟩
  iapply (emitted_rule X W K c false 1 _ (Above.fin (by decide) c)) $$ [HO c2 aO2]
  · isplitr; · iexact Hctx
    isplitl [HO]; · iexact HO
    isplitl [c2] <;> iassumption
  iintro ⟨HO, aO2, o2, r2⟩
  iapply (emitted_rule X W K c true 1 _ (Above.fin (by decide) c)) $$ [HO c3 aO3]
  · isplitr; · iexact Hctx
    isplitl [HO]; · iexact HO
    isplitl [c3] <;> iassumption
  iintro ⟨HO, aO3, o3, r3⟩
  -- the last barrier
  unfold dueEnd dueFin
  iapply (meet_rule X W K c .fin endSem rfl rfl rfl 40 (Above.zero 40) (by decide)) $$ [HO HtE JtE HaE HcE]
  · isplitr; · iexact Hctx
    isplitl [HO]; · iexact HO
    isplitl [HtE]; · iexact HtE
    isplitr; · simp only [pay]; iempintro
    isplitl [JtE]; · iexact JtE
    isplitr; · simp only [pay]; iempintro
    isplitl [HcE] <;> iassumption
  iintro ⟨HO, HaE, -⟩
  unfold run
  rw [Prog.pure_eq_ret, wp_ret]
  imodintro
  iapply Hk
  unfold arrived laneOut
  icases h0 with ⟨aC0, aS0, aT0, aR0, aU0, s0⟩
  icases h1 with ⟨aC1, aS1, aT1, aR1, aU1, s1⟩
  icases h2 with ⟨aC2, aS2, aT2, aR2, aU2, s2⟩
  icases h3 with ⟨aC3, aS3, aT3, aR3, aU3, s3⟩
  isplitl [Hops]; · iexact Hops
  isplitl [HO]; · iexact HO
  isplitl [HaB]; · iexact HaB
  isplitl [HaE]; · iexact HaE
  isplitl [aC0 aS0 aT0 aR0 aU0 aO0 r0 s0 o0]
  · isplitl [aC0 aS0 aT0 aR0 aU0 aO0]
    · isplitl [aC0]; · iexact aC0
      isplitl [aS0]; · iexact aS0
      isplitl [aT0]; · iexact aT0
      isplitl [aR0]; · iexact aR0
      isplitl [aU0] <;> iassumption
    isplitl [r0 s0]
    · isplitl [r0] <;> iassumption
    iexact o0
  isplitl [aC1 aS1 aT1 aR1 aU1 aO1 r1 s1 o1]
  · isplitl [aC1 aS1 aT1 aR1 aU1 aO1]
    · isplitl [aC1]; · iexact aC1
      isplitl [aS1]; · iexact aS1
      isplitl [aT1]; · iexact aT1
      isplitl [aR1]; · iexact aR1
      isplitl [aU1] <;> iassumption
    isplitl [r1 s1]
    · isplitl [r1] <;> iassumption
    iexact o1
  isplitl [aC2 aS2 aT2 aR2 aU2 aO2 r2 s2 o2]
  · isplitl [aC2 aS2 aT2 aR2 aU2 aO2]
    · isplitl [aC2]; · iexact aC2
      isplitl [aS2]; · iexact aS2
      isplitl [aT2]; · iexact aT2
      isplitl [aR2]; · iexact aR2
      isplitl [aU2] <;> iassumption
    isplitl [r2 s2]
    · isplitl [r2] <;> iassumption
    iexact o2
  · isplitl [aC3 aS3 aT3 aR3 aU3 aO3]
    · isplitl [aC3]; · iexact aC3
      isplitl [aS3]; · iexact aS3
      isplitl [aT3]; · iexact aT3
      isplitl [aR3]; · iexact aR3
      isplitl [aU3] <;> iassumption
    isplitl [r3 s3]
    · isplitl [r3] <;> iassumption
    iexact o3

end Cert.KernelIdeal.Hop

end
-- ==== Proof.Deal.lean ====
module

public import proofs.«01_k».proof.Proof.Body
public import proofs.«01_k».proof.Proof.Gen.KernelIdeal.Frame
public import Idealize.ShloMosaic.Lib.Ring

/-!
# What the launch deals

The launch mints every cell's tokens, sets up every cell's invariant and hands
each device the tokens of the duties it pays, and the credits of its waits.
-/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (X : Dev nD → (cc0_stg0_0 : Ref sig .tc).ty.Contents (Elt F))
  (W : Dev nD → (cc0_stg1_0 : Ref sig .tc).ty.Contents (Elt F))

/-- The groups of columns, listed. -/
theorem bigSep_groups (Φ : Bool × Fin 2 → sProp (MM F)) :
    bigSep Finset.univ Φ = iprop(Φ (false, 0) ∗ Φ (true, 0) ∗ Φ (false, 1) ∗ Φ (true, 1)) :=
  bigSep_univ_eq_bigSepL [(false, 0), (true, 0), (false, 1), (true, 1)] (by decide) (by decide) Φ

/-- Over two kinds of indices. -/
theorem bigSep_either {A B : Type} [Fintype A] [Fintype B] (Φ : A ⊕ B → sProp (MM F)) :
    bigSep Finset.univ Φ = iprop((bigSep Finset.univ fun a => Φ (.inl a)) ∗ bigSep Finset.univ fun b => Φ (.inr b)) :=
  bigSep_univ_sum Φ

/-! ## The cells, counted -/

/-- An index for the kernel's own cells. -/
abbrev Own : Type := Fin 1 ⊕ ((Bool × Fin 2) × Fin 6)

/-- The cells of one group of columns. -/
def laneCell (dir : Bool) (q : Fin 2) : Fin 6 → Cell
  | 0 => .cred dir q
  | 1 => .send dir 0 q
  | 2 => .send dir 1 q
  | 3 => .recv dir 0 q
  | 4 => .recv dir 1 q
  | 5 => .out dir q

/-- The own cell of an index. -/
def ownCell : Own → Cell
  | .inl _ => .fin
  | .inr (g, j) => laneCell g.1 g.2 j

/-- The cell of an index, the barrier's among them. -/
def anyCell : Fin 1 ⊕ Own → Cell
  | .inl _ => .bar
  | .inr o => ownCell o

theorem laneCell_inj : ∀ g g' : Bool × Fin 2, ∀ j j' : Fin 6, laneCell g.1 g.2 j = laneCell g'.1 g'.2 j' → g = g' ∧ j = j' := by
  decide +kernel

theorem lane_not : ∀ g : Bool × Fin 2, ∀ j : Fin 6, laneCell g.1 g.2 j ≠ .bar ∧ laneCell g.1 g.2 j ≠ .fin := by
  decide +kernel

theorem anyCell_bij : Function.Bijective anyCell := by
  constructor
  · rintro (a | a | ⟨g, j⟩) (b | b | ⟨g', j'⟩) h
    · exact congrArg Sum.inl (Subsingleton.elim a b)
    · exact nomatch h
    · exact absurd h.symm (lane_not g' j').1
    · exact nomatch h
    · exact congrArg (fun x => Sum.inr (Sum.inl x)) (Subsingleton.elim a b)
    · exact absurd h.symm (lane_not g' j').2
    · exact absurd h (lane_not g j).1
    · exact absurd h (lane_not g j).2
    · obtain ⟨rfl, rfl⟩ := laneCell_inj g g' j j' h
      rfl
  · intro k
    cases k with
    | bar => exact ⟨.inl 0, rfl⟩
    | fin => exact ⟨.inr (.inl 0), rfl⟩
    | cred dir q => exact ⟨.inr (.inr ((dir, q), 0)), rfl⟩
    | send dir s q =>
      match s with
      | 0 => exact ⟨.inr (.inr ((dir, q), 1)), rfl⟩
      | 1 => exact ⟨.inr (.inr ((dir, q), 2)), rfl⟩
    | recv dir s q =>
      match s with
      | 0 => exact ⟨.inr (.inr ((dir, q), 3)), rfl⟩
      | 1 => exact ⟨.inr (.inr ((dir, q), 4)), rfl⟩
    | out dir q => exact ⟨.inr (.inr ((dir, q), 5)), rfl⟩

/-- A statement of the six cells of a group. -/
def laneOf (Φ : Cell → sProp (MM F)) (dir : Bool) (q : Fin 2) : sProp (MM F) :=
  iprop(Φ (.cred dir q) ∗ Φ (.send dir 0 q) ∗ Φ (.send dir 1 q) ∗ Φ (.recv dir 0 q) ∗ Φ (.recv dir 1 q) ∗ Φ (.out dir q))

theorem cells_own (Φ : Cell → sProp (MM F)) :
    bigSep Finset.univ Φ = iprop(Φ .bar ∗ bigSep Finset.univ fun o : Own => Φ (ownCell o)) := by
  rw [bigSep_univ_equiv (Equiv.ofBijective anyCell anyCell_bij), bigSep_either, bigSep_univ_of_subsingleton 0]
  rfl

theorem cells_split (Φ : Cell → sProp (MM F)) :
    bigSep Finset.univ Φ = iprop(Φ .bar ∗ Φ .fin ∗ laneOf Φ false 0 ∗ laneOf Φ true 0 ∗ laneOf Φ false 1 ∗ laneOf Φ true 1) := by
  have hl (dir : Bool) (q : Fin 2) : (bigSep Finset.univ fun j : Fin 6 => Φ (laneCell dir q j)) = laneOf Φ dir q :=
    bigSep_univ_eq_bigSepL ([0, 1, 2, 3, 4, 5] : List (Fin 6)) (by decide) (by decide) _
  rw [cells_own, bigSep_either, bigSep_univ_of_subsingleton 0, bigSep_univ_prod, bigSep_groups]
  rw [← hl, ← hl, ← hl, ← hl]
  rfl

/-- The kernel's own semaphores. -/
def osem (o : Own) : SemLoc sig := spot (ownCell o)

/-! ## The tokens -/

/-- An index for the tokens of a device's cells: two for each barrier, and for each group of columns three for each
    hop and three more. -/
abbrev Tok : Type := (Bool ⊕ Bool) ⊕ ((Bool × Fin 2) × (Fin 6 × Fin 3 ⊕ Fin 3))

/-- A token of a group: the cell, the round and the duty. -/
def laneTok (dir : Bool) (q : Fin 2) : Fin 6 × Fin 3 ⊕ Fin 3 → Cell × ℕ × Bool
  | .inl (m, 0) => (.send dir (sl (m.val + 1)) q, (m.val + 1) / 2, false)
  | .inl (m, 1) => (.recv dir (sl (m.val + 1 + 1)) q, (m.val + 1) / 2, false)
  | .inl (m, 2) => (.cred dir q, m.val, false)
  | .inr 0 => (.send dir (sl 0) q, 0, false)
  | .inr 1 => (.recv dir (sl (0 + 1)) q, 0, false)
  | .inr 2 => (.out dir q, 0, false)

/-- A token. -/
def tok : Tok → Cell × ℕ × Bool
  | .inl (.inl d) => (.bar, 0, d)
  | .inl (.inr d) => (.fin, 0, d)
  | .inr (g, x) => laneTok g.1 g.2 x

theorem tok_inj : Function.Injective tok := by
  have h : ∀ a b : Tok, tok a = tok b → a = b := by decide +kernel
  exact fun a b => h a b

/-- Whose cell a token of a group belongs to, for the device that pays it. -/
def laneMove (dir : Bool) : Fin 6 × Fin 3 ⊕ Fin 3 → Dev nD ≃ Dev nD
  | .inl (_, 1) | .inr 1 => ring dir
  | .inl (_, 2) => (ring dir).symm
  | .inl (_, 0) | .inr 0 | .inr 2 => Equiv.refl _

/-- Whose cell a token belongs to, for the device that pays it. -/
def move : Tok → Dev nD ≃ Dev nD
  | .inl (.inl d) | .inl (.inr d) => (ring d).symm
  | .inr (g, x) => laneMove g.1 x

/-- A token at a device's cell. -/
def tokAt (c : Dev nD) (t : Tok) : GSem nD τ sig × ℕ × Bool := (at_ c (tok t).1, (tok t).2.1, (tok t).2.2)

theorem at_inj {c c' : Dev nD} {k k' : Cell} (h : at_ c k = at_ c' k') : c = c' ∧ k = k' := by
  have h1 : c = c' := congrArg (fun g : GSem nD τ sig => g.1.1) h
  exact ⟨h1, spot_inj (congrArg Prod.snd h)⟩

theorem at_injective : Function.Injective fun ck : Dev nD × Cell => at_ ck.1 ck.2 := by
  rintro ⟨c, k⟩ ⟨c', k'⟩ h
  obtain ⟨h1, h2⟩ := at_inj h
  exact Prod.ext h1 h2

theorem tokAt_injective : Function.Injective fun ct : Dev nD × Tok => tokAt ct.1 ct.2 := by
  rintro ⟨c, t⟩ ⟨c', t'⟩ h
  obtain ⟨h1, h2⟩ := at_inj (congrArg Prod.fst h)
  have h3 := congrArg Prod.snd h
  exact Prod.ext h1 (tok_inj (Prod.ext h2 h3))

/-- All cells of all devices. -/
def allCells : Finset (GSem nD τ sig) := Finset.univ.map ⟨_, at_injective⟩
/-- All tokens of all devices. -/
def allToks : Finset (GSem nD τ sig × ℕ × Bool) := Finset.univ.map ⟨_, tokAt_injective⟩

/-- A token owned. -/
def tokRes (x : GSem nD τ sig × ℕ × Bool) : sProp (MM F) := dutyTok ER x.1 x.2.1 x.2.2

/-- The tokens of a device's cells. -/
def minted (c : Dev nD) : sProp (MM F) := bigSep Finset.univ fun t : Tok => tokRes (tokAt c t)
/-- The tokens a device pays with. -/
def held (c : Dev nD) : sProp (MM F) := bigSep Finset.univ fun t : Tok => tokRes (tokAt (move t c) t)

/-- The tokens of all cells are the tokens of all payers. -/
theorem tokens_around : (bigSep Finset.univ fun c : Dev nD => minted (F := F) c) = bigSep Finset.univ fun c => held c := by
  unfold minted held
  rw [bigSep_univ_comm, bigSep_univ_comm (fun (c : Dev nD) (t : Tok) => tokRes (F := F) (tokAt (move t c) t))]
  exact bigSep_congr fun t _ => bigSep_univ_equiv (move t) _

/-- A device's positions. -/
def places (c : Dev nD) : sProp (MM F) := bigSep Finset.univ fun k : Cell => atPos ER (at_ c k) 0 ∅ 0

/-- What the launch element deals a device. -/
def dealt (c : Dev nD) : sProp (MM F) :=
  iprop((bigSep Finset.univ fun k : Cell => roundState ER (Rd X W) (at_ c k) 0)
    ∗ (places c ∗ bigSep Finset.univ fun k : Cell => reached ER (at_ c k) 0) ∗ minted c)

theorem fund_cells : BI.own (ER (initOf allCells allToks)) ⊢ (|==> bigSep Finset.univ (dealt X W) : sProp (MM F)) := by
  have hC (Φ : GSem nD τ sig → sProp (MM F)) :
      bigSep allCells Φ = bigSep Finset.univ fun c : Dev nD => bigSep Finset.univ fun k : Cell => Φ (at_ c k) := by
    unfold allCells; rw [bigSep_map, bigSep_univ_prod]; rfl
  have hT : bigSep allToks (fun x => (dutyTok ER x.1 x.2.1 x.2.2 : sProp (MM F))) = bigSep Finset.univ fun c : Dev nD => minted c := by
    unfold allToks; rw [bigSep_map, bigSep_univ_prod]; rfl
  iintro H
  imod (Rounds.fund ER (Rd X W) allCells allToks) $$ H with ⟨Hst, Hr, Hat, Htok⟩
  imodintro
  ihave Hst := (Entails.of_eq (hC fun g => roundState ER (Rd X W) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold dealt places; simp only [bigSep_sep']
  isplitl [Hst]; · iexact Hst
  isplitl [Hat Hr]
  · isplitl [Hat] <;> iassumption
  iexact Htok

/-! ## The invariants -/

/-- The semaphores of a device, all at zero. -/
def zeros (c : Dev nD) : sProp (MM F) := bigSep Finset.univ fun k : Cell => semVal (at_ c k) 0

theorem ownSemFacts : Pipeline.OwnSemFacts cfg0.spec osem := by decide +kernel

theorem zeros_eq (c : Dev nD) :
    (zeros c : sProp (MM F)) = iprop(unscopedSems0 c
      ∗ Pipeline.ownSems0 (Ix := ℕ) (Name := ℕ) (U := UU) (Lvl := ℕ) (Val := Elt F) (τ := τ) osem c) := by
  unfold zeros unscopedSems0
  rw [cells_own, bigSep_eq_bigSepL_of_eq [SemLoc.reg barSem] (by decide) (by decide)]
  rfl

/-- The invariants of a device's cells, from its semaphores and their states. -/
theorem cells_alloc (c : Dev nD) :
    iprop(zeros c ∗ bigSep Finset.univ fun k : Cell => roundState ER (Rd X W) (at_ c k) 0)
      ⊢ (|={Set.univ}=> bigSep Finset.univ fun k : Cell => iprop(∃ κ : ℕ, cellInv ER (Rd X W) κ (at_ c k)) : sProp (MM F)) := by
  unfold zeros
  rw [← bigSep_sep']
  exact (bigSep_mono fun k _ => (Rounds.body_intro ER (Rd X W) (at_ c k)).trans inv_alloc).trans (bigSep_fupd _ _)

theorem device_alloc (c : Dev nD) :
    iprop(Pipeline.ownSems0 (Ix := ℕ) (Name := ℕ) (U := UU) (Lvl := ℕ) (Val := Elt F) (τ := τ) osem c ∗ unscopedSems0 c ∗ dealt X W c)
      ⊢ |={Set.univ}=> iprop((bigSep Finset.univ fun k : Cell => iprop(∃ κ : ℕ, cellInv ER (Rd X W) κ (at_ c k)))
          ∗ (places c ∗ bigSep Finset.univ fun k : Cell => reached ER (at_ c k) 0) ∗ minted c) := by
  unfold dealt
  iintro ⟨Ho, Hu, Hst, Hrest⟩
  imod (cells_alloc X W c) $$ [Ho Hu Hst] with H
  · rw [zeros_eq]
    isplitl [Ho Hu]
    · isplitl [Hu] <;> iassumption
    · iexact Hst
  imodintro
  isplitl [H] <;> iassumption

/-- What every device knows of all cells. -/
def records (K : Dev nD × Cell → ℕ) : sProp (MM F) :=
  iprop((bigSep Finset.univ fun ck : Dev nD × Cell => cellInv ER (Rd X W) (K ck) (at_ ck.1 ck.2))
    ∗ bigSep Finset.univ fun ck : Dev nD × Cell => reached ER (at_ ck.1 ck.2) 0)

instance records_persistent (K : Dev nD × Cell → ℕ) : BI.Persistent (records X W K) := by unfold records; infer_instance

/-- What a device starts with, but for its credits. -/
def share (c : Dev nD) : sProp (MM F) := iprop((∃ K, records X W K) ∗ places c ∗ held c)

theorem regroup :
    (bigSep Finset.univ fun c : Dev nD => iprop((bigSep Finset.univ fun k : Cell => iprop(∃ κ : ℕ, cellInv ER (Rd X W) κ (at_ c k)))
          ∗ (places c ∗ bigSep Finset.univ fun k : Cell => reached ER (at_ c k) 0) ∗ minted c) : sProp (MM F))
      ⊢ bigSep Finset.univ (share X W) := by
  rw [bigSep_sep', bigSep_sep', bigSep_sep',
    ← bigSep_univ_prod (fun ck : Dev nD × Cell => iprop(∃ κ : ℕ, cellInv ER (Rd X W) κ (at_ ck.1 ck.2))),
    ← bigSep_univ_prod (fun ck : Dev nD × Cell => (reached ER (at_ ck.1 ck.2) 0 : sProp (MM F))), tokens_around]
  unfold share
  rw [bigSep_sep', bigSep_sep']
  iintro ⟨HI, ⟨Hat, #HR⟩, Htok⟩
  ihave HK := (BI.bigSep_exists_pi Finset.univ (fun (ck : Dev nD × Cell) (κ : ℕ) =>
    (cellInv ER (Rd X W) κ (at_ ck.1 ck.2) : sProp (MM F)))) $$ HI
  icases HK with ⟨%K, #HI⟩
  isplitr
  · iapply ((BI.bigSep_of_persistent Finset.univ (records X W K)).trans (bigSep_mono fun c _ => exists_intro (Φ := fun K => records X W K) K))
    unfold records
    isplitl; · iexact HI
    iexact HR
  · isplitl [Hat] <;> iassumption

/-- The set-up of all devices at once. -/
theorem deal_all :
    (bigSep Finset.univ fun c : Dev nD => iprop(Pipeline.ownSems0 (Ix := ℕ) (Name := ℕ) (U := UU) (Lvl := ℕ) (Val := Elt F) (τ := τ) osem c
        ∗ unscopedSems0 c ∗ dealt X W c) : sProp (MM F))
      ⊢ |={Set.univ}=> bigSep Finset.univ (share X W) :=
  ((bigSep_mono fun c _ => device_alloc X W c).trans (bigSep_fupd _ _)).trans (BI.fupd_mono (regroup X W))

/-! ## A device's tokens, sorted -/

section Sorted
variable (c : Dev nD)

/-- The two tokens a device meets a barrier with. -/
def gateToks (k : Cell) : sProp (MM F) :=
  iprop(dutyTok ER (at_ (up false c) k) 0 false ∗ dutyTok ER (at_ (up true c) k) 0 true)

/-- A device's tokens of a group. -/
def laneToks (dir : Bool) (q : Fin 2) : sProp (MM F) :=
  iprop((bigSep (Finset.Ico 0 6) fun m => iprop(toks dir q (m + 1) c ∗ dutyTok ER (at_ (up dir c) (.cred dir q)) m false))
    ∗ toks dir q 0 c ∗ dutyTok ER (at_ c (.out dir q)) 0 false)

theorem held_lane (dir : Bool) (q : Fin 2) :
    (bigSep Finset.univ fun x : Fin 6 × Fin 3 ⊕ Fin 3 => tokRes (F := F) (tokAt (move (.inr ((dir, q), x)) c) (.inr ((dir, q), x))))
      ⊢ laneToks c dir q := by
  unfold laneToks
  rw [bigSep_either, bigSep_univ_prod, ← Finset.range_eq_Ico,
    ← Ring.bigSep_fin_eq_range 6 (fun m : Fin 6 => iprop(toks (F := F) dir q (m.val + 1) c ∗ dutyTok ER (at_ (up dir c) (.cred dir q)) m.val false)) _ (fun _ _ => rfl)]
  rw [Ring.bigSep_fin3]
  have h1 (m : Fin 6) : (bigSep Finset.univ fun b : Fin 3 => tokRes (F := F) (tokAt (move (.inr ((dir, q), .inl (m, b))) c) (.inr ((dir, q), .inl (m, b)))))
      ⊢ iprop(toks dir q (m.val + 1) c ∗ dutyTok ER (at_ (up dir c) (.cred dir q)) m.val false) := by
    rw [Ring.bigSep_fin3]
    unfold toks
    refine (show iprop(dutyTok ER (at_ c (.send dir (sl (m.val + 1)) q)) ((m.val + 1) / 2) false
      ∗ dutyTok ER (at_ (down dir c) (.recv dir (sl (m.val + 1 + 1)) q)) ((m.val + 1) / 2) false
      ∗ dutyTok ER (at_ (up dir c) (.cred dir q)) m.val false) ⊢ _ from ?_)
    iintro ⟨H0, H1, H2⟩
    isplitl [H0 H1]
    · isplitl [H0] <;> iassumption
    · iexact H2
  have h2 : iprop(tokRes (F := F) (tokAt (move (.inr ((dir, q), .inr 0)) c) (.inr ((dir, q), .inr 0)))
      ∗ tokRes (tokAt (move (.inr ((dir, q), .inr 1)) c) (.inr ((dir, q), .inr 1)))
      ∗ tokRes (tokAt (move (.inr ((dir, q), .inr 2)) c) (.inr ((dir, q), .inr 2))))
      ⊢ iprop(toks dir q 0 c ∗ dutyTok ER (at_ c (.out dir q)) 0 false) := by
    unfold toks
    refine (show iprop(dutyTok ER (at_ c (.send dir (sl 0) q)) 0 false
      ∗ dutyTok ER (at_ (down dir c) (.recv dir (sl (0 + 1)) q)) 0 false ∗ dutyTok ER (at_ c (.out dir q)) 0 false) ⊢ _ from ?_)
    iintro ⟨H0, H1, H2⟩
    isplitl [H0 H1]
    · isplitl [H0] <;> iassumption
    · iexact H2
  iintro ⟨H, Hr⟩
  isplitl [H]; · iapply (show _ ⊢ _ from bigSep_mono (s := (Finset.univ : Finset (Fin 6))) fun m _ => h1 m); iexact H
  iapply h2
  iexact Hr

theorem held_split :
    held (F := F) c ⊢ iprop((gateToks c .bar ∗ gateToks c .fin)
      ∗ laneToks c false 0 ∗ laneToks c true 0 ∗ laneToks c false 1 ∗ laneToks c true 1) := by
  have hb (Φ : Bool → sProp (MM F)) : bigSep Finset.univ Φ = iprop(Φ false ∗ Φ true) :=
    bigSep_univ_eq_bigSepL [false, true] (by decide) (by decide) Φ
  unfold held
  rw [bigSep_either, bigSep_either, hb, hb, bigSep_univ_prod, bigSep_groups]
  iintro ⟨⟨Hb, Hf⟩, H0, H1, H2, H3⟩
  isplitl [Hb Hf]
  · isplitl [Hb]
    · iapply (show iprop(tokRes (F := F) (tokAt (move (.inl (.inl false)) c) (.inl (.inl false)))
        ∗ tokRes (tokAt (move (.inl (.inl true)) c) (.inl (.inl true)))) ⊢ gateToks c .bar from .rfl)
      iexact Hb
    · iapply (show iprop(tokRes (F := F) (tokAt (move (.inl (.inr false)) c) (.inl (.inr false)))
        ∗ tokRes (tokAt (move (.inl (.inr true)) c) (.inl (.inr true)))) ⊢ gateToks c .fin from .rfl)
      iexact Hf
  isplitl [H0]; · iapply (held_lane (F := F) c false 0); iexact H0
  isplitl [H1]; · iapply (held_lane (F := F) c true 0); iexact H1
  isplitl [H2]; · iapply (held_lane (F := F) c false 1); iexact H2
  iapply (held_lane (F := F) c true 1); iexact H3

end Sorted

/-! ## A device's credits, sorted -/

section Credits
variable (c : Dev nD)

/-- The credit of the permission after transfer `m`. -/
def permitted (dir : Bool) (q : Fin 2) (m : ℕ) : sProp (MM F) := cred (tallyAt (at_ c (.cred dir q)) (lvCred m q) 1)

theorem credit_recv (dir : Bool) (q : Fin 2) (t : ℕ) :
    (Pipeline.launchCred (dueRecv dir q t) c : sProp (MM F)) ⊢ arrival dir q t c :=
  Pipeline.launchCred_tallyAt (spot (.recv dir (sl (t + 1)) q)) (down dir) (up dir) (down_up dir) (up_down dir) (lvRecv t q) N c
theorem credit_cred (dir : Bool) (q : Fin 2) (n : ℕ) :
    (Pipeline.launchCred (dueCred dir q n) c : sProp (MM F)) ⊢ permitted c dir q n :=
  Pipeline.launchCred_tallyAt (spot (.cred dir q)) (up dir) (down dir) (up_down dir) (down_up dir) (lvCred n q) 1 c
theorem credit_bar (dir : Bool) :
    (Pipeline.launchCred (dueBar dir) c : sProp (MM F)) ⊢ cred (tallyAt (at_ c .bar) 1 1) :=
  Pipeline.launchCred_tallyAt (spot .bar) (up dir) (down dir) (up_down dir) (down_up dir) 1 1 c
theorem credit_fin (dir : Bool) :
    (Pipeline.launchCred (dueFin dir) c : sProp (MM F)) ⊢ cred (tallyAt (at_ c .fin) 40 1) :=
  Pipeline.launchCred_tallyAt (spot .fin) (up dir) (down dir) (up_down dir) (down_up dir) 40 1 c

/-- Two single units are one credit of two. -/
theorem credit_two (g : GSem nD τ sig) (i : ℕ) :
    iprop(cred (tallyAt g i 1) ∗ cred (tallyAt g i 1)) ⊢ (cred (tallyAt g i 2) : sProp (MM F)) := by
  rw [show tallyAt g i 2 = (tallyAt g i 1 + tallyAt g i 1 : Tally) from (tallyAt_add g i 1 1).symm]
  exact (cred_add _ _).2

/-- A group's credits of one hop. -/
def hopCred (dir : Bool) (q : Fin 2) (m : ℕ) : sProp (MM F) := iprop(arrival dir q (m + 1) c ∗ permitted c dir q m)

theorem credit_pend (O : Dev nD → Tally) (q : Fin 2) (n : ℕ) :
    (Pipeline.launchCred (fun d => pend (O d) q n d) c : sProp (MM F))
      ⊢ iprop(Pipeline.launchCred O c ∗ hopCred c false q n ∗ hopCred c true q n) := by
  unfold pend
  rw [Pipeline.launchCred_add (fun d => ((O d + dueRecv true q (n + 1) d) + dueRecv false q (n + 1) d) + dueCred true q n d),
    Pipeline.launchCred_add (fun d => (O d + dueRecv true q (n + 1) d) + dueRecv false q (n + 1) d),
    Pipeline.launchCred_add (fun d => O d + dueRecv true q (n + 1) d), Pipeline.launchCred_add O]
  unfold hopCred
  iintro ⟨⟨⟨⟨HO, H1⟩, H2⟩, H3⟩, H4⟩
  ihave H1 := (credit_recv (F := F) c true q (n + 1)) $$ H1
  ihave H2 := (credit_recv (F := F) c false q (n + 1)) $$ H2
  ihave H3 := (credit_cred (F := F) c true q n) $$ H3
  ihave H4 := (credit_cred (F := F) c false q n) $$ H4
  isplitl [HO]; · iexact HO
  isplitl [H2 H4]
  · isplitl [H2] <;> iassumption
  · isplitl [H1] <;> iassumption

/-- All groups' credits of one hop. -/
def hopCreds (m : ℕ) : sProp (MM F) :=
  iprop(hopCred c false 0 m ∗ hopCred c true 0 m ∗ hopCred c false 1 m ∗ hopCred c true 1 m)

theorem credit_due : ∀ k n : ℕ,
    (Pipeline.launchCred (due k n) c : sProp (MM F))
      ⊢ iprop(Pipeline.launchCred dueEnd c ∗ bigSep (Finset.Ico n (n + k)) fun m => hopCreds c m)
  | 0, n => by
    iintro H
    isplitl [H]; · iexact H
    rw [Nat.add_zero, Finset.Ico_self, bigSep_empty]
    iempintro
  | k + 1, n => by
    have ih := credit_due k (n + 1)
    have h1 := credit_pend (F := F) c (due k (n + 1)) 1 n
    have h0 := credit_pend (F := F) c (fun d => pend (due k (n + 1) d) 1 n d) 0 n
    refine (show (Pipeline.launchCred (due (k + 1) n) c : sProp (MM F)) ⊢ _ from h0).trans ?_
    rw [bigSep_Ico_succ_bot (show n < n + (k + 1) by omega), show n + (k + 1) = n + 1 + k from by omega]
    unfold hopCreds
    iintro ⟨H, Hc, Hd⟩
    ihave H := h1 $$ H
    icases H with ⟨H, Ha, Hb⟩
    ihave H := ih $$ H
    icases H with ⟨He, H⟩
    isplitl [He]; · iexact He
    isplitr [H]
    · isplitl [Hc]; · iexact Hc
      isplitl [Hd]; · iexact Hd
      isplitl [Ha] <;> iassumption
    · iexact H

/-- A group's credits. -/
def laneCreds (dir : Bool) (q : Fin 2) : sProp (MM F) :=
  iprop(arrival dir q 0 c ∗ bigSep (Finset.Ico 0 6) fun m => hopCred c dir q m)

/-- A device's launch credit is the credits of its waits. -/
theorem credits :
    (Pipeline.launchCred dueAll c : sProp (MM F))
      ⊢ iprop((cred (tallyAt (at_ c .bar) 1 2) ∗ cred (tallyAt (at_ c .fin) 40 2))
        ∗ laneCreds c false 0 ∗ laneCreds c true 0 ∗ laneCreds c false 1 ∗ laneCreds c true 1) := by
  have hend : (Pipeline.launchCred dueEnd c : sProp (MM F)) ⊢ cred (tallyAt (at_ c .fin) 40 2) := by
    unfold dueEnd
    rw [Pipeline.launchCred_add (fun d => 0 + dueFin true d), Pipeline.launchCred_add (fun _ => 0)]
    iintro ⟨⟨-, H1⟩, H2⟩
    ihave H1 := (credit_fin (F := F) c true) $$ H1
    ihave H2 := (credit_fin (F := F) c false) $$ H2
    iapply (credit_two (F := F))
    isplitl [H1] <;> iassumption
  have hdue : (Pipeline.launchCred (due 6 0) c : sProp (MM F)) ⊢ _ := credit_due c 6 0
  have hrec : (Pipeline.launchCred dueStart c : sProp (MM F)) ⊢ iprop(Pipeline.launchCred (due 6 0) c
      ∗ arrival true 1 0 c ∗ arrival false 1 0 c ∗ arrival true 0 0 c ∗ arrival false 0 0 c) := by
    unfold dueStart
    rw [Pipeline.launchCred_add (fun d => ((due 6 0 d + dueRecv true 1 0 d) + dueRecv false 1 0 d) + dueRecv true 0 0 d),
      Pipeline.launchCred_add (fun d => (due 6 0 d + dueRecv true 1 0 d) + dueRecv false 1 0 d),
      Pipeline.launchCred_add (fun d => due 6 0 d + dueRecv true 1 0 d), Pipeline.launchCred_add (due 6 0)]
    iintro ⟨⟨⟨⟨HO, H1⟩, H2⟩, H3⟩, H4⟩
    ihave H1 := (credit_recv (F := F) c true 1 0) $$ H1
    ihave H2 := (credit_recv (F := F) c false 1 0) $$ H2
    ihave H3 := (credit_recv (F := F) c true 0 0) $$ H3
    ihave H4 := (credit_recv (F := F) c false 0 0) $$ H4
    isplitl [HO]; · iexact HO
    isplitl [H1]; · iexact H1
    isplitl [H2]; · iexact H2
    isplitl [H3] <;> iassumption
  have hall : (Pipeline.launchCred dueAll c : sProp (MM F))
      ⊢ iprop(Pipeline.launchCred dueStart c ∗ cred (tallyAt (at_ c .bar) 1 2)) := by
    unfold dueAll
    rw [Pipeline.launchCred_add (fun d => dueStart d + dueBar true d), Pipeline.launchCred_add dueStart]
    iintro ⟨⟨H, H1⟩, H2⟩
    ihave H1 := (credit_bar (F := F) c true) $$ H1
    ihave H2 := (credit_bar (F := F) c false) $$ H2
    isplitl [H]; · iexact H
    iapply (credit_two (F := F))
    isplitl [H1] <;> iassumption
  unfold laneCreds
  iintro H
  ihave H := hall $$ H
  icases H with ⟨H, Hbar⟩
  ihave H := hrec $$ H
  icases H with ⟨H, A3, A2, A1, A0⟩
  ihave H := hdue $$ H
  icases H with ⟨He, H⟩
  ihave He := hend $$ He
  isplitl [Hbar He]
  · isplitl [Hbar] <;> iassumption
  ihave H := (show (bigSep (Finset.Ico 0 (0 + 6)) fun m => hopCreds (F := F) c m) ⊢ _ from Entails.of_eq (by
    unfold hopCreds
    rw [bigSep_sep', bigSep_sep', bigSep_sep'])) $$ H
  icases H with ⟨H0, H1, H2, H3⟩
  isplitl [A0 H0]
  · isplitl [A0] <;> iassumption
  isplitl [A1 H1]
  · isplitl [A1] <;> iassumption
  isplitl [A2 H2]
  · isplitl [A2] <;> iassumption
  isplitl [A3] <;> iassumption

end Credits

end Cert.KernelIdeal.Hop

end
-- ==== Proof.Regions.lean ====
module

public import proofs.«01_k».proof.Proof.Deal
public import Idealize.ShloMosaic.Lib.ViewIndex

/-!
# The buffers in pieces

A direction's buffer is its four quarters, and the result is its four groups of
columns.  This module takes the whole buffers apart before the body and puts
them together after it.
-/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]
variable (c : Dev nD)

/-! ## Which elements a piece has -/

theorem mem_rect (s q : Fin 2) (i : S2x512x4096.Idx) :
    i ∈ (rect s q).set ↔ (i 0 : ℕ) = s.val ∧ 2048 * q.val ≤ (i 2 : ℕ) ∧ (i 2 : ℕ) < 2048 * q.val + 2048 := by
  rw [Rect.mem_set_unit]
  have h1 : (i 1 : ℕ) < 512 := (i 1).isLt
  constructor
  · intro h
    have h0 : s.val ≤ (i 0 : ℕ) ∧ (i 0 : ℕ) < s.val + 1 := h 0
    have h2 : 2048 * q.val ≤ (i 2 : ℕ) ∧ (i 2 : ℕ) < 2048 * q.val + 2048 := h 2
    exact ⟨by omega, h2⟩
  · rintro ⟨h0, h2⟩ a
    match a with
    | ⟨0, _⟩ => show s.val ≤ (i 0 : ℕ) ∧ (i 0 : ℕ) < s.val + 1; omega
    | ⟨1, _⟩ => show 0 ≤ (i 1 : ℕ) ∧ (i 1 : ℕ) < 0 + 512; omega
    | ⟨2, _⟩ => exact h2

theorem mem_colRect (dir : Bool) (q : Fin 2) (i : S512x8192.Idx) :
    i ∈ (colRect dir q).set
      ↔ half dir + 2048 * q.val ≤ (i 1 : ℕ) ∧ (i 1 : ℕ) < half dir + 2048 * q.val + 2048 := by
  rw [Rect.mem_set_unit]
  have h0 : (i 0 : ℕ) < 512 := (i 0).isLt
  constructor
  · intro h; exact h 1
  · intro h a
    match a with
    | ⟨0, _⟩ => show 0 ≤ (i 0 : ℕ) ∧ (i 0 : ℕ) < 0 + 512; omega
    | ⟨1, _⟩ => exact h

/-- The quarters of a slot pair are apart. -/
theorem rect_apart {t t' : Fin 2 × Fin 2} (h : t ≠ t') : Disjoint (rect t.1 t.2).set (rect t'.1 t'.2).set := by
  rw [Finset.disjoint_left]
  intro i hi hi'
  rw [mem_rect] at hi hi'
  exact h (Prod.ext (Fin.ext (by omega)) (Fin.ext (by omega)))

/-- And they are all of it. -/
theorem rect_cover (i : S2x512x4096.Idx) : ∃ t : Fin 2 × Fin 2, i ∈ (rect t.1 t.2).set := by
  have h0 : (i 0 : ℕ) < 2 := (i 0).isLt
  have h2 : (i 2 : ℕ) < 4096 := (i 2).isLt
  refine ⟨(⟨(i 0 : ℕ), h0⟩, ⟨(i 2 : ℕ) / 2048, by omega⟩), (mem_rect _ _ i).mpr ⟨rfl, ?_, ?_⟩⟩ <;> dsimp only <;> omega

theorem half_le (dir : Bool) : half dir = 0 ∧ dir = false ∨ half dir = 4096 ∧ dir = true := by
  cases dir
  · exact Or.inl ⟨rfl, rfl⟩
  · exact Or.inr ⟨rfl, rfl⟩

theorem colRect_apart {t t' : Bool × Fin 2} (h : t ≠ t') : Disjoint (colRect t.1 t.2).set (colRect t'.1 t'.2).set := by
  rw [Finset.disjoint_left]
  intro i hi hi'
  rw [mem_colRect] at hi hi'
  obtain ⟨d, q⟩ := t
  obtain ⟨d', q'⟩ := t'
  dsimp only at hi hi'
  have hq := q.isLt
  have hq' := q'.isLt
  rcases half_le d with ⟨e, hd⟩ | ⟨e, hd⟩ <;> rcases half_le d' with ⟨e', hd'⟩ | ⟨e', hd'⟩ <;> rw [e] at hi <;> rw [e'] at hi'
  · exact h (Prod.ext (hd.trans hd'.symm) (Fin.ext (by dsimp only; omega)))
  · omega
  · omega
  · exact h (Prod.ext (hd.trans hd'.symm) (Fin.ext (by dsimp only; omega)))

theorem colRect_cover (i : S512x8192.Idx) : ∃ t : Bool × Fin 2, i ∈ (colRect t.1 t.2).set := by
  have h1 : (i 1 : ℕ) < 8192 := (i 1).isLt
  by_cases h : (i 1 : ℕ) < 4096
  · refine ⟨(false, ⟨(i 1 : ℕ) / 2048, by omega⟩), (mem_colRect _ _ i).mpr ?_⟩
    simp only [half]; omega
  · refine ⟨(true, ⟨((i 1 : ℕ) - 4096) / 2048, by omega⟩), (mem_colRect _ _ i).mpr ?_⟩
    simp only [half]; omega

/-! ## A direction's buffer -/

/-- The elements of a slot's quarter. -/
def regElts (dir : Bool) (t : Fin 2 × Fin 2) : Finset (Idx ((buf dir).view.loc (c : Thread nD τ))) := (reg dir t.1 t.2).view.set

theorem reg_set (dir : Bool) (s q : Fin 2) : (reg dir s q).view.set = ((buf dir).view.slice (rect s q)).set :=
  View.set_reshape _ _

theorem reg_apart (dir : Bool) {t t' : Fin 2 × Fin 2} (h : t ≠ t') :
    Disjoint (regElts c dir t) (regElts c dir t') := by
  have h' := View.disjoint_slice (v := (buf dir).view) (rect_apart h)
  rw [← reg_set, ← reg_set] at h'
  exact h'

theorem reg_cover (dir : Bool) :
    (Finset.univ : Finset (Fin 2 × Fin 2)).biUnion (regElts c dir) = Finset.univ := by
  refine Finset.eq_univ_iff_forall.mpr fun i => ?_
  cases dir
  · obtain ⟨t, ht⟩ := rect_cover i
    refine Finset.mem_biUnion.mpr ⟨t, Finset.mem_univ _, ?_⟩
    unfold regElts
    rw [reg_set]
    exact (View.set_slice_whole cc0_scratch0 (rect t.1 t.2)).symm ▸ ht
  · obtain ⟨t, ht⟩ := rect_cover i
    refine Finset.mem_biUnion.mpr ⟨t, Finset.mem_univ _, ?_⟩
    unfold regElts
    rw [reg_set]
    exact (View.set_slice_whole cc0_scratch1 (rect t.1 t.2)).symm ▸ ht

/-- The pairs of a slot and a quarter, listed. -/
theorem bigSep_quarters (Φ : Fin 2 × Fin 2 → sProp (MM F)) :
    bigSep Finset.univ Φ = iprop(Φ (0, 0) ∗ Φ (0, 1) ∗ Φ (1, 0) ∗ Φ (1, 1)) :=
  bigSep_univ_eq_bigSepL [(0, 0), (0, 1), (1, 0), (1, 1)] (by decide) (by decide) Φ

/-- A direction's whole buffer, at some contents. -/
def whole (dir : Bool) : sProp (MM F) :=
  iprop(∃ f : (buf dir).view.ty.Contents (Elt F), (buf dir).view.loc (c : Thread nD τ) ↦{fullShare} f)

theorem reg_any (dir : Bool) (t : Fin 2 × Fin 2) (f : (buf dir).view.ty.Contents (Elt F)) :
    ((buf dir).view.loc (c : Thread nD τ) ↦[regElts c dir t]{fullShare} f : sProp (MM F)) ⊢ anyReg dir t.1 t.2 c :=
  (owns_intro (c : Thread nD τ) (reg dir t.1 t.2) fullShare f).trans (exists_intro (Φ := fun v => owns (c : Thread nD τ) (reg dir t.1 t.2) fullShare v) _)

theorem whole_split (dir : Bool) :
    whole (F := F) c dir ⊢ iprop((anyReg dir 0 0 c ∗ anyReg dir 1 0 c) ∗ (anyReg dir 0 1 c ∗ anyReg dir 1 1 c)) := by
  have hs (f : (buf dir).view.ty.Contents (Elt F)) :
      ((buf dir).view.loc (c : Thread nD τ) ↦{fullShare} f : sProp (MM F))
        ⊢ bigSep Finset.univ fun t : Fin 2 × Fin 2 => anyReg dir t.1 t.2 c := by
    rw [← reg_cover c dir]
    refine (Entails.of_eq (pointsTo_biUnion (ℓ := (buf dir).view.loc (c : Thread nD τ)) Finset.univ
      (regElts c dir) fun t _ t' _ h => reg_apart c dir h)).trans (bigSep_mono fun t _ => reg_any c dir t f)
  unfold whole
  iintro ⟨%f, H⟩
  ihave H := ((hs f).trans (Entails.of_eq (bigSep_quarters _))) $$ H
  icases H with ⟨H1, H2, H3, H4⟩
  isplitl [H1 H3]
  · isplitl [H1] <;> iassumption
  · isplitl [H2] <;> iassumption

theorem whole_join (dir : Bool) :
    iprop((anyReg (F := F) dir 0 0 c ∗ anyReg dir 1 0 c) ∗ (anyReg dir 0 1 c ∗ anyReg dir 1 1 c)) ⊢ whole c dir := by
  have hj : (bigSep Finset.univ fun t : Fin 2 × Fin 2 => anyReg (F := F) dir t.1 t.2 c) ⊢ whole c dir := by
    have h1 (t : Fin 2 × Fin 2) : anyReg (F := F) dir t.1 t.2 c
        ⊢ iprop(∃ g : (buf dir).view.ty.Contents (Elt F), (buf dir).view.loc (c : Thread nD τ) ↦[regElts c dir t]{fullShare} g) := by
      unfold anyReg owns
      iintro ⟨%v, %g, -, H⟩
      iexists g
      iexact H
    refine (bigSep_mono fun t _ => h1 t).trans ((BI.bigSep_exists_pi Finset.univ fun (t : Fin 2 × Fin 2)
      (g : (buf dir).view.ty.Contents (Elt F)) => ((buf dir).view.loc (c : Thread nD τ) ↦[regElts c dir t]{fullShare} g : sProp (MM F))).trans ?_)
    iintro ⟨%fs, H⟩
    ihave H := (pointsTo_biUnion_join (ℓ := (buf dir).view.loc (c : Thread nD τ)) Finset.univ
      (regElts c dir) fs (fs (0, 0)) fun t _ t' _ h => reg_apart c dir h) $$ H
    icases H with ⟨%g, -, H⟩
    unfold whole
    iexists g
    rw [← reg_cover c dir]
    iexact H
  rw [bigSep_quarters] at hj
  iintro ⟨⟨H1, H3⟩, H2, H4⟩
  iapply hj
  isplitl [H1]; · iexact H1
  isplitl [H2]; · iexact H2
  isplitl [H3] <;> iassumption

/-! ## The result -/

/-- The elements of a group of columns. -/
def outElts (t : Bool × Fin 2) : Finset (Idx ((c : Thread nD τ).loc main_v1)) := (outReg t.1 t.2).view.set

theorem out_set (dir : Bool) (q : Fin 2) : (outReg dir q).view.set = (colRect dir q).set :=
  View.set_slice_whole main_v1 (colRect dir q)

theorem out_apart {t t' : Bool × Fin 2} (h : t ≠ t') :
    Disjoint (outElts c t) (outElts c t') := by
  have h' := colRect_apart h
  rw [← out_set, ← out_set] at h'
  exact h'

theorem out_cover : (Finset.univ : Finset (Bool × Fin 2)).biUnion (outElts c) = Finset.univ := by
  refine Finset.eq_univ_iff_forall.mpr fun i => ?_
  obtain ⟨t, ht⟩ := colRect_cover i
  refine Finset.mem_biUnion.mpr ⟨t, Finset.mem_univ _, ?_⟩
  unfold outElts
  rw [out_set]
  exact ht

/-- A group of columns, whatever it holds. -/
def anyOut (dir : Bool) (q : Fin 2) : sProp (MM F) := iprop(∃ v, owns (c : Thread nD τ) (outReg dir q) fullShare v)

theorem out_any (t : Bool × Fin 2) (f : Buf (Elt F) ((c : Thread nD τ).loc main_v1)) :
    (((c : Thread nD τ).loc main_v1) ↦[outElts c t]{fullShare} f : sProp (MM F)) ⊢ anyOut c t.1 t.2 :=
  (owns_intro (c : Thread nD τ) (outReg t.1 t.2) fullShare f).trans (exists_intro (Φ := fun v => owns (c : Thread nD τ) (outReg t.1 t.2) fullShare v) _)

theorem out_split (f : Buf (Elt F) ((c : Thread nD τ).loc main_v1)) :
    (((c : Thread nD τ).loc main_v1) ↦{fullShare} f : sProp (MM F))
      ⊢ iprop(anyOut c false 0 ∗ anyOut c true 0 ∗ anyOut c false 1 ∗ anyOut c true 1) := by
  rw [← bigSep_groups (F := F) fun t => anyOut c t.1 t.2]
  rw [← out_cover c]
  refine (Entails.of_eq (pointsTo_biUnion (ℓ := (c : Thread nD τ).loc main_v1) Finset.univ
    (outElts c) fun t _ t' _ h => out_apart c h)).trans (bigSep_mono fun t _ => out_any c t f)

/-- The groups of columns at known contents are the whole result, which holds them. -/
theorem out_join (v : Bool → Fin 2 → FVec F S512x2048 .f32) :
    iprop(owns (c : Thread nD τ) (outReg false 0) fullShare (v false 0) ∗ owns (c : Thread nD τ) (outReg true 0) fullShare (v true 0)
        ∗ owns (c : Thread nD τ) (outReg false 1) fullShare (v false 1) ∗ owns (c : Thread nD τ) (outReg true 1) fullShare (v true 1))
      ⊢ (iprop(∃ g : Buf (Elt F) ((c : Thread nD τ).loc main_v1), ⌜∀ dir q, (outReg dir q).view.read (Elt F) g = v dir q⌝
          ∗ ((c : Thread nD τ).loc main_v1) ↦{fullShare} g) : sProp (MM F)) := by
  unfold owns
  iintro ⟨⟨%g0, %h0, H0⟩, ⟨%g1, %h1, H1⟩, ⟨%g2, %h2, H2⟩, ⟨%g3, %h3, H3⟩⟩
  let fs : Bool × Fin 2 → Buf (Elt F) ((c : Thread nD τ).loc main_v1) := fun t =>
    if t.2 = 0 then (if t.1 then g1 else g0) else (if t.1 then g3 else g2)
  have hfs (t : Bool × Fin 2) : (outReg t.1 t.2).view.read (Elt F) (fs t) = v t.1 t.2 := by
    obtain ⟨d, q⟩ := t
    cases d <;> fin_cases q
    · exact h0
    · exact h2
    · exact h1
    · exact h3
  have hl := bigSep_groups (F := F) fun t => (((c : Thread nD τ).loc main_v1) ↦[outElts c t]{fullShare} fs t : sProp (MM F))
  ihave H := (Entails.of_eq hl.symm) $$ [H0 H1 H2 H3]
  · isplitl [H0]; · iexact H0
    isplitl [H1]; · iexact H1
    isplitl [H2]; · iexact H2
    iexact H3
  ihave H := (pointsTo_biUnion_join (ℓ := (c : Thread nD τ).loc main_v1) Finset.univ
    (outElts c) fs (fs (false, 0)) fun t _ t' _ h => out_apart c h) $$ H
  icases H with ⟨%g, %hg, H⟩
  iexists g
  isplitr
  · ipureintro
    intro dir q
    rw [← hfs (dir, q)]
    refine funext fun j => ?_
    exact congrArg _ (hg (dir, q) (Finset.mem_univ _) _ (Finset.mem_map_of_mem _ (Finset.mem_univ j)))
  · rw [← out_cover c]
    iexact H

end Cert.KernelIdeal.Hop

end
-- ==== Proof.Launch.lean ====
module

public import proofs.«01_k».proof.Proof.Regions

/-!
# The kernel's run

The body from what the launch deals, and what the whole program leaves: the
arguments unchanged, every counter at zero, and in each device's result the four
groups of columns the body computes.
-/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

/-! ## From the deal to the body and back -/

section Body
variable (X : Dev nD → (cc0_stg0_0 : Ref sig .tc).ty.Contents (Elt F))
  (W : Dev nD → (cc0_stg1_0 : Ref sig .tc).ty.Contents (Elt F)) (c : Dev nD)

/-- What a device knows and holds before the body, but for its buffers. -/
def begun : sProp (MM F) :=
  iprop(share X W c ∗ levAts L lv ∗ Pipeline.launchCred dueAll c
    ∗ ∃ f : Buf (Elt F) ((c : Thread nD τ).loc main_v1), ((c : Thread nD τ).loc main_v1) ↦{fullShare} f)

/-- The result, holding what the body computes. -/
def result : sProp (MM F) :=
  iprop(∃ g : Buf (Elt F) ((c : Thread nD τ).loc main_v1), ⌜∀ dir q, (outReg dir q).view.read (Elt F) g = res X W dir q c⌝
    ∗ ((c : Thread nD τ).loc main_v1) ↦{fullShare} g)

/-- Before the body. -/
def before : sProp (MM F) := iprop(begun X W c ∗ whole c false ∗ whole c true)
/-- After it. -/
def after : sProp (MM F) := iprop(zeros c ∗ (whole c false ∗ whole c true) ∗ result X W c)

/-- A hop's tokens and credits are what the hop uses up. -/
theorem fuel_intro (dir : Bool) (q : Fin 2) (m : ℕ) :
    iprop((toks (F := F) dir q (m + 1) c ∗ dutyTok ER (at_ (up dir c) (.cred dir q)) m false) ∗ hopCred c dir q m)
      ⊢ fuel dir q m c := by
  unfold hopCred fuel permit permitted
  iintro ⟨⟨H1, H2⟩, H3, H4⟩
  isplitl [H1]; · iexact H1
  isplitl [H3]; · iexact H3
  isplitl [H2] <;> iassumption

/-- A group's part of the deal is what its steps start from. -/
theorem lane_intro (dir : Bool) (q : Fin 2) :
    iprop(laneOf (fun k => atPos ER (at_ c k) 0 ∅ 0) dir q ∗ laneToks c dir q ∗ laneCreds c dir q
        ∗ (anyReg dir 0 q c ∗ anyReg dir 1 q c) ∗ anyOut c dir q)
      ⊢ (laneIn c dir q : sProp (MM F)) := by
  unfold laneOf laneToks laneCreds laneIn drain anyOut
  iintro ⟨Hat, ⟨Hm, H0, Ho⟩, ⟨Ha, Hc⟩, Hb, Hv⟩
  isplitl [Hat]; · iexact Hat
  isplitl [Hm H0 Ha Hc]
  · isplitl [H0]; · iexact H0
    isplitl [Ha]; · iexact Ha
    iapply (show iprop((bigSep (Finset.Ico 0 6) fun m => iprop(toks (F := F) dir q (m + 1) c ∗ dutyTok ER (at_ (up dir c) (.cred dir q)) m false))
        ∗ bigSep (Finset.Ico 0 6) fun m => hopCred c dir q m) ⊢ bigSep (Finset.Ico 0 6) fun m => fuel dir q m c from by
      rw [← bigSep_sep']
      exact bigSep_mono fun m _ => fuel_intro c dir q m)
    isplitl [Hm] <;> iassumption
  isplitl [Hb]; · iexact Hb
  icases Hv with ⟨%v, Hv⟩
  isplitl [Hv]
  · iexists v; iexact Hv
  · iexact Ho

theorem body_enter :
    before X W c ⊢ iprop(∃ K, ctx X W K ∗ gate c .bar 1 ∗ gate c .fin 40
      ∗ laneIn c false 0 ∗ laneIn c true 0 ∗ laneIn c false 1 ∗ laneIn c true 1) := by
  unfold before begun share places
  rw [cells_split]
  iintro ⟨⟨⟨⟨%K, HK⟩, ⟨Pb, Pf, P0, P1, P2, P3⟩, Ht⟩, Hlev, Hc, ⟨%f, Hv⟩⟩, Hw0, Hw1⟩
  ihave Ht := (held_split (F := F) c) $$ Ht
  icases Ht with ⟨⟨Tb, Tf⟩, T0, T1, T2, T3⟩
  ihave Hc := (credits (F := F) c) $$ Hc
  icases Hc with ⟨⟨Cb, Cf⟩, C0, C1, C2, C3⟩
  ihave Hv := (out_split (F := F) c f) $$ Hv
  icases Hv with ⟨V0, V1, V2, V3⟩
  ihave Hw0 := (whole_split (F := F) c false) $$ Hw0
  icases Hw0 with ⟨B0, B2⟩
  ihave Hw1 := (whole_split (F := F) c true) $$ Hw1
  icases Hw1 with ⟨B1, B3⟩
  iexists K
  isplitl [HK Hlev]
  · unfold records ctx
    icases HK with ⟨H1, H2⟩
    isplitl [H1]; · iexact H1
    isplitl [H2] <;> iassumption
  isplitl [Pb Tb Cb]
  · unfold gate gateToks
    icases Tb with ⟨Ta, Tb⟩
    isplitl [Pb]; · iexact Pb
    isplitl [Ta]; · iexact Ta
    isplitl [Tb] <;> iassumption
  isplitl [Pf Tf Cf]
  · unfold gate gateToks
    icases Tf with ⟨Ta, Tb⟩
    isplitl [Pf]; · iexact Pf
    isplitl [Ta]; · iexact Ta
    isplitl [Tb] <;> iassumption
  isplitl [P0 T0 C0 B0 V0]
  · iapply (lane_intro (F := F) c false 0)
    isplitl [P0]; · iexact P0
    isplitl [T0]; · iexact T0
    isplitl [C0]; · iexact C0
    isplitl [B0] <;> iassumption
  isplitl [P1 T1 C1 B1 V1]
  · iapply (lane_intro (F := F) c true 0)
    isplitl [P1]; · iexact P1
    isplitl [T1]; · iexact T1
    isplitl [C1]; · iexact C1
    isplitl [B1] <;> iassumption
  isplitl [P2 T2 C2 B2 V2]
  · iapply (lane_intro (F := F) c false 1)
    isplitl [P2]; · iexact P2
    isplitl [T2]; · iexact T2
    isplitl [C2]; · iexact C2
    isplitl [B2] <;> iassumption
  · iapply (lane_intro (F := F) c true 1)
    isplitl [P3]; · iexact P3
    isplitl [T3]; · iexact T3
    isplitl [C3]; · iexact C3
    isplitl [B3] <;> iassumption

/-- What a device's positions are at the end. -/
def ended (K : Dev nD × Cell → ℕ) (k : Cell) : sProp (MM F) :=
  iprop(cellInv ER (Rd X W) (K (c, k)) (at_ c k) ∗ atPos ER (at_ c k) (rounds k) ∅ 0)

/-- A cell all of whose rounds are over has its counter at zero. -/
theorem ended_zero (K : Dev nD × Cell → ℕ) (k : Cell) :
    ended X W c K k ⊢ (iprop(|={Set.univ}=> semVal (at_ c k) 0) : sProp (MM F)) :=
  Rounds.cell_close ER (Rd X W) (Set.mem_univ _) (fun h => h) (R := rounds k) fun r hr => by
    rw [duties_at]; exact dut_later k r hr

theorem all_zero (K : Dev nD × Cell → ℕ) :
    iprop(ctx X W K ∗ bigSep Finset.univ fun k : Cell => atPos ER (at_ c k) (rounds k) ∅ 0) ⊢ (|={Set.univ}=> zeros c : sProp (MM F)) := by
  have h1 : iprop(ctx X W K ∗ bigSep Finset.univ fun k : Cell => atPos ER (at_ c k) (rounds k) ∅ 0)
      ⊢ bigSep Finset.univ fun k : Cell => ended X W c K k := by
    refine (sep_mono_left (BI.bigSep_of_persistent (Finset.univ : Finset Cell) (ctx X W K))).trans ?_
    rw [← bigSep_sep']
    exact bigSep_mono fun k _ => sep_mono_left (ctx_inv X W K c k)
  exact h1.trans ((bigSep_mono fun k _ => ended_zero X W c K k).trans (bigSep_fupd _ _))

/-- A group's positions at the end, gathered. -/
theorem lane_ended (dir : Bool) (q : Fin 2) :
    iprop(atPos ER (at_ c (.cred dir q)) 6 ∅ 0
      ∗ atPos ER (at_ c (.send dir 0 q)) 4 ∅ 0 ∗ atPos ER (at_ c (.send dir 1 q)) 3 ∅ 0
      ∗ atPos ER (at_ c (.recv dir 0 q)) 3 ∅ 0 ∗ atPos ER (at_ c (.recv dir 1 q)) 4 ∅ 0
      ∗ atPos ER (at_ c (.out dir q)) 1 ∅ 0)
      ⊢ (laneOf (fun k => atPos ER (at_ c k) (rounds k) ∅ 0) dir q : sProp (MM F)) := .rfl

theorem body_leave (K : Dev nD × Cell → ℕ) :
    iprop(ctx X W K ∗ atPos ER (at_ c .bar) 1 ∅ 0 ∗ atPos ER (at_ c .fin) 1 ∅ 0
        ∗ laneOut X W c false 0 ∗ laneOut X W c true 0 ∗ laneOut X W c false 1 ∗ laneOut X W c true 1)
      ⊢ |={Set.univ}=> after X W c := by
  have hz := all_zero X W c K
  rw [cells_split] at hz
  unfold after laneOut
  iintro ⟨Hctx, Pb, Pf, ⟨P0, B0, V0⟩, ⟨P1, B1, V1⟩, ⟨P2, B2, V2⟩, P3, B3, V3⟩
  imod hz $$ [Hctx Pb Pf P0 P1 P2 P3] with Hz
  · isplitl [Hctx]; · iexact Hctx
    isplitl [Pb]; · iexact Pb
    isplitl [Pf]; · iexact Pf
    isplitl [P0]; · iapply (lane_ended (F := F) c false 0); iexact P0
    isplitl [P1]; · iapply (lane_ended (F := F) c true 0); iexact P1
    isplitl [P2]; · iapply (lane_ended (F := F) c false 1); iexact P2
    iapply (lane_ended (F := F) c true 1); iexact P3
  imodintro
  isplitl [Hz]; · iexact Hz
  isplitl [B0 B1 B2 B3]
  · isplitl [B0 B2]
    · iapply (whole_join (F := F) c false)
      isplitl [B0] <;> iassumption
    · iapply (whole_join (F := F) c true)
      isplitl [B1] <;> iassumption
  unfold result
  iapply (out_join (F := F) c fun dir q => res X W dir q c)
  isplitl [V0]; · iexact V0
  isplitl [V1]; · iexact V1
  isplitl [V2] <;> iassumption

/-- The body between the deal and the end. -/
theorem body_whole :
    iprop(before X W c ∗ ops X W c ∗ ow (dueAll c) c)
      ⊢ run c (body c) fun _ => iprop(after X W c ∗ ops X W c ∗ ow 0 c) := by
  iintro ⟨Hb, Hops, How⟩
  ihave Hb := (body_enter X W c) $$ Hb
  icases Hb with ⟨%K, #Hctx, Gb, Gf, L0, L1, L2, L3⟩
  iapply (wp_fupd (Fr := frame) (wpE := wpE (defs₀ (F := F)) 𝒱₀ (c : Thread nD τ) none) (E := Set.univ))
  iapply (body_rule X W K c) $$ [Hops How Gb Gf L0 L1 L2 L3]
  · isplitr; · iexact Hctx
    isplitl [Hops]; · iexact Hops
    isplitl [How]; · iexact How
    isplitl [Gb]; · iexact Gb
    isplitl [Gf]; · iexact Gf
    isplitl [L0]; · iexact L0
    isplitl [L1]; · iexact L1
    isplitl [L2] <;> iassumption
  iintro ⟨Hops, How, Hrest⟩
  imod (body_leave X W c K) $$ [Hrest] with Ha
  · isplitr; · iexact Hctx
    iexact Hrest
  imodintro
  isplitl [Ha]; · iexact Ha
  isplitl [Hops] <;> iassumption

end Body

end Cert.KernelIdeal.Hop

end
-- ==== Proof.Run.lean ====
module

public import proofs.«01_k».proof.Proof.Launch
public import Idealize.ShloMosaic.Lib.Pipeline.CollectiveSegs

/-!
# The whole program's run

From any memory with every counter at zero the program ends, its arguments are
unchanged, every counter is zero again, and the result of each device is what
the ring has summed.
-/

@[expose] public section

noncomputable section

namespace Cert.KernelIdeal.Hop

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]
variable (m : (ℓ : Loc nD τ sig) → Buf (Elt F) ℓ) (ρ : Dev nD → PrngReg)

/-- The memory at the start: any contents, every counter at zero. -/
def s₀ : MemSt nD τ sig (Elt F) := ⟨m, fun _ => 0, ρ⟩

/-- The staged block of `x`. -/
def xstg (c : Dev nD) : (cc0_stg0_0 : Ref sig .tc).ty.Contents (Elt F) :=
  (win0_0.blk (0 : Fin 1)).view.read (Elt F) (m ((c : Thread nD τ).loc main_arg0))
/-- The staged block of the weights. -/
def wstg (c : Dev nD) : (cc0_stg1_0 : Ref sig .tc).ty.Contents (Elt F) :=
  (win0_1.blk (0 : Fin 1)).view.read (Elt F) (m ((c : Thread nD τ).loc main_arg1))

/-- What the pipeline's proof is stated with. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
  Φ t := match t with
    | ⟨0, _⟩ => before (xstg m) (wstg m) c
    | ⟨_ + 1, _⟩ => after (xstg m) (wstg m) c
  q _ := fullShare
  owed t := match t with
    | ⟨0, _⟩ => dueAll c
    | ⟨_ + 1, _⟩ => 0

/-- A whole buffer owned is its contents. -/
theorem owns_whole_at (c : Dev nD) (b : Ref sig .tc) (v : b.ty.Contents (Elt F)) :
    (owns (c : Thread nD τ) (Memref.whole b) fullShare v : sProp (MM F))
      = iprop(∃ f : Buf (Elt F) ((c : Thread nD τ).loc b), ⌜f = v⌝ ∗ ((c : Thread nD τ).loc b) ↦{fullShare} f) := by
  unfold owns; simp only [Memref.view_whole, View.read_whole, View.set_whole]

/-- A staging buffer at known contents. -/
abbrev staged (c : Dev nD) (b : Ref sig .tc) (v : b.ty.Contents (Elt F)) : sProp (MM F) :=
  iprop(∃ f : Buf (Elt F) ((c : Thread nD τ).loc b), ⌜f = v⌝ ∗ ((c : Thread nD τ).loc b) ↦{fullShare} f)

/-- The state before the body, as the pipeline hands it over. -/
def handed (c : Dev nD) : sProp (MM F) :=
  iprop(before (xstg m) (wstg m) c ∗ (dats m ρ 0 c).owesAt 0 (t0_0 : Fin cfg0.N).castSucc
    ∗ (∃ d, staged c cc0_stg0_0 ((dats m ρ 0 c).before (0 : Fin 2) t0_0 d))
    ∗ (∃ d, staged c cc0_stg1_0 ((dats m ρ 0 c).before (1 : Fin 2) t0_0 d)))

/-- And after it. -/
def taken (c : Dev nD) : sProp (MM F) :=
  iprop(after (xstg m) (wstg m) c ∗ (dats m ρ 0 c).owesAt 0 (t0_0 : Fin cfg0.N).succ
    ∗ staged c cc0_stg0_0 (xstg m c) ∗ staged c cc0_stg1_0 (wstg m c))

theorem handed_split (c : Dev nD) :
    handed m ρ c ⊢ iprop(before (xstg m) (wstg m) c ∗ ops (xstg m) (wstg m) c ∗ ow (dueAll c) c) := by
  unfold handed ops ow Dat.owesAt Pipeline.owesWithin
  iintro ⟨Hb, ⟨%Ws, -, Ho⟩, ⟨%d0, %g0, %h0, H0⟩, ⟨%d1, %g1, %h1, H1⟩⟩
  have e0 : g0 = xstg m c := by rw [h0]; unfold Dat.before; rw [if_pos (fetch0_0 t0_0)]; rfl
  have e1 : g1 = wstg m c := by rw [h1]; unfold Dat.before; rw [if_pos (fetch0_1 t0_0)]; rfl
  subst e0 e1
  isplitl [Hb]; · iexact Hb
  isplitl [H0 H1]
  · isplitl [H0] <;> iassumption
  iexists Ws
  iexact Ho

theorem taken_join (c : Dev nD) :
    iprop(after (xstg m) (wstg m) c ∗ ops (xstg m) (wstg m) c ∗ ow 0 c) ⊢ taken m ρ c := by
  unfold taken ops ow Dat.owesAt Pipeline.owesWithin
  iintro ⟨Ha, ⟨H0, H1⟩, ⟨%Ws, Ho⟩⟩
  isplitl [Ha]; · iexact Ha
  isplitl [Ho]
  · iexists Ws
    isplitr; · ipureintro; exact fun _ _ => Or.inl trivial
    iexact Ho
  isplitl [H0]
  · iexists _; isplitr; · (ipureintro; rfl)
    iexact H0
  · iexists _; isplitr; · (ipureintro; rfl)
    iexact H1

set_option maxRecDepth 200000 in
theorem handed_run (c : Dev nD) :
    handed m ρ c ⊢ run c (bodyAt0 (F := F) t0_0) fun _ => taken m ρ c := by
  rw [body_eq t0_0]
  unfold run
  rw [Prog.bind_lift, wp_deviceId]
  exact (handed_split m ρ c).trans ((body_whole (xstg m) (wstg m) c).trans
    (wp_mono _ _ _ fun _ => taken_join m ρ c))

set_option maxRecDepth 200000 in
/-- The body's part of the pipeline. -/
theorem body_done (c : Dev nD) : BodyObligation (dats (F := F) m ρ 0 c) (defs₀ (F := F)) 𝒱₀ 0 Set.univ := fun t => by
  rw [fin_N0 t, bigSep_W0, bigSep_W0]
  simp only [owns_whole_at]
  exact handed_run m ρ c

/-! ## The launch's conditions -/

def u₀ : UU :=
  (initOf (Pipeline.cells cfgs cellOf_inj) (Pipeline.launchToks cfgs cellOf_inj), initOf allCells allToks)

theorem share_full (c : Dev nD) (w : Fin cfg0.W) : (dats m ρ 0 c).share w = fullShare := by
  unfold Dat.share; split <;> rfl

theorem start_deal (c : Dev nD) :
    iprop(Pipeline.unscopedRestP Pipeline.Prefetch.none cfg0.spec c (fun b => m ((c : Thread nD τ).loc b)) ∗ levAts L lv
        ∗ Pipeline.launchCred dueAll c ∗ prngReg c (ρ c) ∗ share (xstg m) (wstg m) c)
      ⊢ |={Set.univ}=> iprop(begun (xstg m) (wstg m) c ∗ emp) := by
  rw [Pipeline.unscopedRestP_none, unscopedRest0_eq]
  unfold begun
  iintro ⟨Hv, Hlev, Hcr, -, HG⟩
  imodintro
  isplitl
  · isplitl [HG]; · iexact HG
    isplitl [Hlev]; · iexact Hlev
    isplitl [Hcr]; · iexact Hcr
    iexists _
    iexact Hv
  · iempintro

theorem whole_scratch0 (c : Dev nD) : (whole c false : sProp (MM F))
    = iprop(∃ f : Buf (Elt F) ((c : Thread nD τ).loc cc0_scratch0), ((c : Thread nD τ).loc cc0_scratch0) ↦{fullShare} f) := rfl
theorem whole_scratch1 (c : Dev nD) : (whole c true : sProp (MM F))
    = iprop(∃ f : Buf (Elt F) ((c : Thread nD τ).loc cc0_scratch1), ((c : Thread nD τ).loc cc0_scratch1) ↦{fullShare} f) := rfl

theorem enter_region (c : Dev nD) :
    iprop(begun (xstg m) (wstg m) c ∗ Pipeline.prefHeld Pipeline.Prefetch.none c (fun _ => fullShare.right) (fun k => k.elim0)
        ∗ Pipeline.scopedRest cfg0.spec c)
      ⊢ (dats m ρ 0 c).Φ 0 := by
  rw [show (dats m ρ 0 c).Φ 0 = before (xstg m) (wstg m) c from rfl, scopedRest0_eq]
  unfold before
  rw [whole_scratch0, whole_scratch1]
  iintro ⟨Hs, -, Hr⟩
  isplitl [Hs] <;> iassumption

theorem leave_region (c : Dev nD) :
    (dats m ρ 0 c).Φ (Fin.last cfg0.N)
      ⊢ iprop((unscopedSems0 c ∗ result (xstg m) (wstg m) c) ∗ Pipeline.ownSems0 osem c ∗ Pipeline.scopedRest cfg0.spec c) := by
  rw [show (dats m ρ 0 c).Φ (Fin.last cfg0.N) = after (xstg m) (wstg m) c from rfl, scopedRest0_eq]
  unfold after
  rw [zeros_eq, whole_scratch0, whole_scratch1]
  iintro ⟨⟨Hu, Ho⟩, Hw, Hr⟩
  isplitl [Hu Hr]
  · isplitl [Hu] <;> iassumption
  isplitl [Ho] <;> iassumption

theorem staging_waits (c : Dev nD) : (levAts L lv : sProp (MM F)) ⊢ Pipeline.cellsWaits cfgs (dats m ρ) 0 0 c :=
  Pipeline.cellsWaits_intro cfgs (dats m ρ) 0 0 c fun w s t =>
    match t with
    | ⟨0, _⟩ => (Above.all c).mayWait (by decide) c _
    | ⟨_ + 1, _⟩ => (Above.zero 0).mayWait (by decide) c _

/-! ## The run -/

/-- What holds of a final state on a device: its arguments, and its result. -/
def Final (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ ∀ dir q, (outReg dir q).view.read (Elt F) (s.mem ((c : Thread nD τ).loc main_v1)) = res (xstg m) (wstg m) dir q c

/-- Reading a device's result off its final state. -/
theorem result_read (c : Dev nD) (s : Phys nD τ sig (Elt F)) :
    iprop(result (xstg m) (wstg m) c ∗ SI s)
      ⊢ (iprop(⌜∀ dir q, (outReg dir q).view.read (Elt F) (s.mem.mem ((c : Thread nD τ).loc main_v1)) = res (xstg m) (wstg m) dir q c⌝ ∗ SI s) : sProp (MM F)) := by
  unfold result
  iintro ⟨⟨%g, %hg, H⟩, HSI⟩
  icombine HSI H gives %h
  isplitr
  · ipureintro
    rw [Buf.eq_of_forall_mem_univ h]
    exact hg
  · iexact HSI

set_option maxRecDepth 200000 in
theorem run_main : θ_run defs (onTc (τ := τ) (main (F := F))) (s₀ m ρ)
    (fun r => (∀ c : Dev nD, Final m c r.2) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_done m ρ) (hne := block_pos0) (harr := arr_whole0) (hstage := stage_whole0) (hshare := share_full m ρ)
    (hdistinct := winFacts0.arr_inj)
    (O₀ := dueAll) (howed₀ := fun _ => rfl) (howedN := fun _ => rfl)
    (L := L) (lv := lv) (hL := fun _ h => if_neg h) (hwaits := staging_waits m ρ)
    (G := dealt (xstg m) (wstg m)) (G' := share (xstg m) (wstg m)) (u₀ := u₀)
    (hu₀ := by
      unfold u₀
      iintro Hu
      ihave H := (ownU_pair _ _) $$ Hu
      icases H with ⟨HP, HX⟩
      imod (fund_cells (xstg m) (wstg m)) $$ HX with HG
      imodintro
      isplitl [HP] <;> iassumption)
    (hglob := deal_all (xstg m) (wstg m))
    (hA := fun _ _ => rfl) (hpf := fun _ k => k.elim0)
    (X := begun (xstg m) (wstg m)) (Y := fun c => iprop(unscopedSems0 c ∗ result (xstg m) (wstg m) c)) (Z := fun _ => iprop(emp))
    (hX := start_deal m ρ) (hin := enter_region m ρ) (hout := leave_region m ρ)
    (QY := fun c s => (∀ sm : SemLoc sig, sm.isScoped .tc = false → s.sem ((c.tc : Thread nD τ), sm) = 0)
      ∧ ∀ dir q, (outReg dir q).view.read (Elt F) (s.mem ((c : Thread nD τ).loc main_v1)) = res (xstg m) (wstg m) dir q c)
    (hY := fun c s' => by
      iintro ⟨⟨Hu, Hr⟩, -, HSI⟩
      ihave H := (result_read m c s') $$ [Hr HSI]
      · isplitl [Hr] <;> iassumption
      icases H with ⟨%hr, HSI⟩
      imod (Pipeline.unscopedSems0_read (X := unscopedSems0 c) (c := c) fupd_intro s') $$ [Hu HSI] with H
      · isplitl [Hu] <;> iassumption
      icases H with ⟨%hz, HSI⟩
      imodintro
      isplitr; · ipureintro; exact ⟨hz, hr⟩
      iexact HSI)
    (hQ := fun _ h hs => ⟨fun c => ⟨((h c).1 (0 : Fin 2)).trans ((dats (F := F) m ρ 0 c).arrAt_in (0 : Fin 2) rfl _),
      ((h c).1 (1 : Fin 2)).trans ((dats (F := F) m ρ 0 c).arrAt_in (1 : Fin 2) rfl _), (h c).2.2.2⟩, sem_eq_zero hs fun c => (h c).2.2.1⟩)

end Cert.KernelIdeal.Hop

end
-- ==== Proof.Sums.lean ====
module

public import proofs.«01_k».proof.Proof.Protocol
public import Idealize.ShloMosaic.Lib.Pointwise
public import Idealize.ShloMosaic.Lib.ViewIndex

/-!
# What the ring sums

Over the extended reals every product of a block of rows and a quarter of the
weights is a sum over the device's 512 columns of `x`.  A ring's total is then
the sum, over the eight devices, of those sums, in the order in which the hops
visit the devices; the order does not matter.
-/

@[expose] public section

set_option maxRecDepth 16384

noncomputable section

namespace Cert.KernelIdeal.Hop

open Idealize.ShloMosaic Idealize.ShloMosaic.TcCoe
open Cert.KernelIdeal Cert.KernelIdeal.Gen

/-- A device's block of `x`, over the extended reals. -/
abbrev XBlk := Vec Ideal S4096x512 .f32
/-- A device's block of the weights, over the extended reals. -/
abbrev WBlk := Vec Ideal S512x8192 .f32

/-- Row `i` of device `d`'s rows. -/
abbrev rowAt (d : Dev nD) (i : Fin 512) : Fin 4096 := ⟨512 * d.val + i.val, by have := d.isLt; have := i.isLt; simp only [nD] at *; omega⟩
/-- Column `j` of a direction's quarter. -/
abbrev colAt (dir : Bool) (q : Fin 2) (j : Fin 2048) : Fin 8192 :=
  ⟨half dir + 2048 * q.val + j.val, by have := q.isLt; have := j.isLt; cases dir <;> simp only [half] <;> omega⟩

/-- One device's share of an element of the product: the sum over its 512 columns of `x`. -/
def share512 (x : XBlk) (w : WBlk) (r : Fin 4096) (l : Fin 8192) : EReal :=
  ∑ k : Fin 512, x (ix2 r k) * w (ix2 k l)

theorem gemm_at (x : Vec Ideal S512x512 .f32) (w : Vec Ideal S512x2048 .f32) (i : Fin 512) (j : Fin 2048) :
    gemm (F := Ideal) x w (ix2 i j) = ∑ k : Fin 512, x (ix2 i k) * w (ix2 k j) := by
  unfold gemm
  pointwise

variable (X : Dev nD → XBlk) (W : Dev nD → WBlk)

theorem part_at (dir : Bool) (q : Fin 2) (c d : Dev nD) (r : Fin 2 → ℕ) (h : ∀ a, r a + S512x512.size a ≤ S4096x512.size a)
    (hr : r = ![512 * d.val, 0]) (i : Fin 512) (j : Fin 2048) :
    part (F := Ideal) X W dir q c r h (ix2 i j) = share512 (X c) (W c) (rowAt d i) (colAt dir q j) := by
  subst hr
  unfold part share512
  rw [gemm_at]
  refine Finset.sum_congr rfl fun k _ => ?_
  congr 1
  · refine congrArg (X c) (funext fun a => Fin.ext ?_)
    match a with
    | ⟨0, _⟩ => show 512 * d.val + 1 * i.val = 512 * d.val + i.val; omega
    | ⟨1, _⟩ => show 0 + 1 * k.val = k.val; omega
  · refine congrArg (W c) (funext fun a => Fin.ext ?_)
    match a with
    | ⟨0, _⟩ => show 0 + 1 * k.val = k.val; omega
    | ⟨1, _⟩ => show half dir + 2048 * q.val + 1 * j.val = half dir + 2048 * q.val + j.val; omega

/-- The device whose rows transfer `t` of device `c` carries. -/
def dest : Bool → ℕ → Dev nD → Dev nD
  | false, t, c => ⟨(c.val + 7 - t % 7) % 8, Nat.mod_lt _ (by decide)⟩
  | true, t, c => ⟨(c.val + t % 7 + 1) % 8, Nat.mod_lt _ (by decide)⟩

theorem xOff_dest (dir : Bool) (t : ℕ) (c : Dev nD) : xOff dir t c = ![512 * (dest dir t c).val, 0] := by
  cases dir
  · exact k0_off1_eq c (h7 t)
  · exact k0_off2_eq c (h7 t)

/-- One device further up, a hop earlier, the rows are the same. -/
theorem dest_up (dir : Bool) (t : ℕ) (ht : t < 6) (c : Dev nD) : dest dir t (up dir c) = dest dir (t + 1) c := by
  have key : ∀ (dir : Bool) (t : Fin 6) (c : Dev nD), dest dir t.val (up dir c) = dest dir (t.val + 1) c := by decide +kernel
  exact key dir ⟨t, ht⟩ c

theorem dest_last (dir : Bool) (c : Dev nD) : dest dir 6 (up dir c) = c := by
  revert dir c; decide +kernel

/-- What a transfer carries: the shares of the devices it has passed. -/
theorem acc_at (dir : Bool) (q : Fin 2) (i : Fin 512) (j : Fin 2048) (t : ℕ) : t ≤ 6 → ∀ c : Dev nD,
    acc (F := Ideal) X W dir q t c (ix2 i j)
      = ∑ s ∈ Finset.range (t + 1), share512 (X ((up dir)^[s] c)) (W ((up dir)^[s] c)) (rowAt (dest dir t c) i) (colAt dir q j) := by
  induction t with
  | zero =>
    intro _ c
    rw [Finset.sum_range_one]
    exact part_at X W dir q c _ _ _ (xOff_dest dir 0 c) i j
  | succ t ih =>
    intro ht c
    have hs := ih (by omega) (up dir c)
    rw [dest_up dir t (by omega) c] at hs
    rw [Finset.sum_range_succ']
    exact congrArg₂ (· + ·) hs (part_at X W dir q c _ _ (xOff_inb dir (t + 1) c) (xOff_dest dir (t + 1) c) i j)

/-- Going up eight times visits every device once. -/
theorem up_bijective (dir : Bool) (c : Dev nD) : Function.Bijective fun s : Fin 8 => (up dir)^[s.val] c := by
  refine (Fintype.bijective_iff_injective_and_card _).mpr ⟨?_, rfl⟩
  intro a b
  revert dir c a b
  decide +kernel

/-- An element of a device's result: the sum of every device's share. -/
theorem res_at (dir : Bool) (q : Fin 2) (c : Dev nD) (i : Fin 512) (j : Fin 2048) :
    res (F := Ideal) X W dir q c (ix2 i j) = ∑ d : Dev nD, share512 (X d) (W d) (rowAt c i) (colAt dir q j) := by
  have ht := acc_at X W dir q i j 6 le_rfl (up dir c)
  rw [dest_last] at ht
  have hp := part_at X W dir q c c _ (k0_off3_inb c) (k0_off3_eq c) i j
  have hb := (up_bijective dir c).sum_comp fun d => share512 (X d) (W d) (rowAt c i) (colAt dir q j)
  rw [← hb, Fin.sum_univ_eq_sum_range (fun s => share512 (X ((up dir)^[s] c)) (W ((up dir)^[s] c)) (rowAt c i) (colAt dir q j)) 8,
    Finset.sum_range_succ']
  exact congrArg₂ (· + ·) ht hp

/-- A sum over 4096 places is a sum over eight blocks of 512. -/
theorem sum_blocks (f : Fin 4096 → EReal) : ∑ k : Fin 4096, f k = ∑ d : Fin 8, ∑ k : Fin 512, f (rowAt d k) := by
  rw [← Fintype.sum_prod_type' (f := fun (d : Fin 8) (k : Fin 512) => f (rowAt d k))]
  exact (Fintype.sum_equiv (finProdFinEquiv (m := 8) (n := 512)) _ f fun p =>
    congrArg f (Fin.ext (Nat.add_comm _ _))).symm

end Cert.KernelIdeal.Hop

end
-- ==== Proof.Value.lean ====
module

public import proofs.«01_k».proof.Proof.Run
public import proofs.«01_k».proof.Proof.Sums
public import proofs.«01_k».proof.Proof.Gen.ReferenceIdeal.Run
public import Idealize.ShloMosaic.Lib.Layout

/-!
# The result against the reference

Device `c`'s result is block `c`, along the rows, of the one product of the
whole arrays: an element of the product is a sum over 4096 columns of `x`, and
each device holds 512 of them.
-/

@[expose] public section

set_option maxRecDepth 16384

noncomputable section

namespace Cert.KernelIdeal.Hop

open Idealize.ShloMosaic Idealize.ShloMosaic.TcCoe
open Cert.KernelIdeal Cert.KernelIdeal.Gen

/-- The whole `x`. -/
abbrev XAll := Vec Ideal (⟨2, ![4096, 4096]⟩ : Shape) .f32
/-- The whole weights. -/
abbrev WAll := Vec Ideal (⟨2, ![4096, 8192]⟩ : Shape) .f32

/-- Device `d`'s columns of `x`. -/
abbrev xPart (A : XAll) (d : Dev nD) : XBlk := Layout.block ⟨2, ![4096, 512]⟩ ⟨2, ![4096, 4096]⟩ 1 8 d A
/-- Device `d`'s rows of the weights. -/
abbrev wPart (B : WAll) (d : Dev nD) : WBlk := Layout.block ⟨2, ![512, 8192]⟩ ⟨2, ![4096, 8192]⟩ 0 8 d B

/-- The reference's product. -/
abbrev prod (A : XAll) (B : WAll) : WAll :=
  Host.dotGeneral (F := Ideal) (φ₁ := .f32) (φ₂ := .f32) Cert.ReferenceIdeal.dot_S4096x4096_S4096x8192_S4096x8192_1_0_0_1_n_n none A B

theorem prod_at (A : XAll) (B : WAll) (r : Fin 4096) (l : Fin 8192) :
    prod A B (ix2 r l) = ∑ k : Fin 4096, A (ix2 r k) * B (ix2 k l) := by
  unfold prod
  pointwise

theorem xPart_at (A : XAll) (d : Dev nD) (r : Fin 4096) (k : Fin 512) : xPart A d (ix2 r k) = A (ix2 r (rowAt d k)) := by
  refine congrArg A (funext fun a => Fin.ext ?_)
  match a with
  | ⟨0, _⟩ => rfl
  | ⟨1, _⟩ => show d.val * 512 + k.val = 512 * d.val + k.val; omega

theorem wPart_at (B : WAll) (d : Dev nD) (k : Fin 512) (l : Fin 8192) : wPart B d (ix2 k l) = B (ix2 (rowAt d k) l) := by
  refine congrArg B (funext fun a => Fin.ext ?_)
  match a with
  | ⟨0, _⟩ => show d.val * 512 + k.val = 512 * d.val + k.val; omega
  | ⟨1, _⟩ => rfl

/-- An element of the product is the sum of the devices' shares. -/
theorem prod_shares (A : XAll) (B : WAll) (r : Fin 4096) (l : Fin 8192) :
    ∑ d : Dev nD, share512 (xPart A d) (wPart B d) r l = prod A B (ix2 r l) := by
  rw [prod_at, sum_blocks]
  refine Finset.sum_congr rfl fun d _ => Finset.sum_congr rfl fun k _ => ?_
  rw [xPart_at, wPart_at]

/-- A quarter of device `c`'s result is that quarter of the product's rows. -/
theorem res_prod (A : XAll) (B : WAll) (dir : Bool) (q : Fin 2) (c : Dev nD) (i : Fin 512) (j : Fin 2048) :
    res (F := Ideal) (xPart A) (wPart B) dir q c (ix2 i j) = wPart (prod A B) c (ix2 i (colAt dir q j)) := by
  rw [res_at, prod_shares, wPart_at]

/-- An array whose four groups of columns are the four quarters is the block of the product. -/
theorem block_of_quarters (A : XAll) (B : WAll) (c : Dev nD) (f : WBlk)
    (h : ∀ dir q, (outReg dir q).view.read (Elt Ideal) f = res (F := Ideal) (xPart A) (wPart B) dir q c) :
    f = wPart (prod A B) c := by
  funext y
  obtain ⟨⟨dir, q⟩, hy⟩ := colRect_cover y
  rw [mem_colRect] at hy
  obtain ⟨i, l, rfl⟩ : ∃ (i : Fin 512) (l : Fin 8192), y = ix2 i l := ⟨y 0, y 1, eq_ix2 y⟩
  have hy' : half dir + 2048 * q.val ≤ l.val ∧ l.val < half dir + 2048 * q.val + 2048 := hy
  obtain ⟨j, rfl⟩ : ∃ j : Fin 2048, l = colAt dir q j :=
    ⟨⟨l.val - (half dir + 2048 * q.val), by omega⟩, Fin.ext (by show l.val = half dir + 2048 * q.val + (l.val - _); omega)⟩
  rw [← res_prod, ← h]
  refine congrArg f (funext fun a => Fin.ext ?_)
  match a with
  | ⟨0, _⟩ => show i.val = 0 + 1 * i.val; omega
  | ⟨1, _⟩ => show half dir + 2048 * q.val + j.val = half dir + 2048 * q.val + 1 * j.val; omega

variable (m : (ℓ : Loc nD τ sig) → Buf (Elt Ideal) ℓ)

theorem xstg_eq (c : Dev nD) : xstg m c = m ((c : Thread nD τ).loc main_arg0) := by
  refine funext fun x => congrArg (m ((c : Thread nD τ).loc main_arg0)) (funext fun a => Fin.ext ?_)
  match a with
  | ⟨0, _⟩ => show 0 * 4096 + 1 * (x 0).val = (x 0).val; omega
  | ⟨1, _⟩ => show 0 * 512 + 1 * (x 1).val = (x 1).val; omega

theorem wstg_eq (c : Dev nD) : wstg m c = m ((c : Thread nD τ).loc main_arg1) := by
  refine funext fun x => congrArg (m ((c : Thread nD τ).loc main_arg1)) (funext fun a => Fin.ext ?_)
  match a with
  | ⟨0, _⟩ => show 0 * 512 + 1 * (x 0).val = (x 0).val; omega
  | ⟨1, _⟩ => show 0 * 8192 + 1 * (x 1).val = (x 1).val; omega

/-- What a final state holds on device `c`, where the arguments are the blocks of whole arrays. -/
theorem final_block (A : XAll) (B : WAll) (hx : ∀ d : Dev nD, m ((d : Thread nD τ).loc main_arg0) = xPart A d)
    (hw : ∀ d : Dev nD, m ((d : Thread nD τ).loc main_arg1) = wPart B d) (c : Dev nD) (s : MemSt nD τ sig (Elt Ideal))
    (h : Final (F := Ideal) m c s) : s.mem ((c : Thread nD τ).loc main_v1) = wPart (prod A B) c := by
  have ex : xstg m = xPart A := funext fun d => (xstg_eq m d).trans (hx d)
  have ew : wstg m = wPart B := funext fun d => (wstg_eq m d).trans (hw d)
  refine block_of_quarters A B c _ fun dir q => ?_
  rw [h.2.2 dir q, ex, ew]

end Cert.KernelIdeal.Hop

end
-- ==== Proof.lean ====
/-
The five claims.  The two frames are the kernel's run (`Run`, and the same text
over bit patterns in `Bits`), the value claim is that run and `Value`'s
comparison with the reference's own run.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Bits.Run
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => (θ_run _ _ _).mono (fun _ h => ⟨fun c => ⟨(h.1 c).1, (h.1 c).2.1⟩, h.2⟩) (Cert.Kernel.Hop.run_main m g),
  fun m g _ => (θ_run _ _ _).mono (fun _ h => ⟨fun c => ⟨(h.1 c).1, (h.1 c).2.1⟩, h.2⟩) (Cert.KernelIdeal.Hop.run_main m g),
  fun m g _ => (θ_run _ _ _).mono (fun r h => ⟨fun c => (h c).2, sem_eq_zero_of_no_sems rfl r.2⟩) (Cert.ReferenceIdeal.Value.run m g),
  trivial,
  fun m g m' g' _ hm => ⟨_,
    (θ_run _ _ _).mono (fun _ h c => ⟨Cert.KernelIdeal.Hop.final_block m _ _ (fun d => (hm d).1) (fun d => (hm d).2) c _ (h.1 c),
      (h.1 c).1, (h.1 c).2.1⟩) (Cert.KernelIdeal.Hop.run_main m g),
    (θ_run _ _ _).mono (fun _ h => h 0) (Cert.ReferenceIdeal.Value.run m' g')⟩⟩

end Cert.Proof

end
